-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def preserves_Kernel_KernelIdeal : Prop :=
  IdealRules.named_const.Statement Cert.KernelIdeal.κ "mask" .f32 0xF149F2CA#32 ⊥

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v68) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2048x1x768 : Shape := ⟨3, ![2048, 1, 768]⟩
abbrev S15x768 : Shape := ⟨2, ![15, 768]⟩
abbrev S15x768x2048 : Shape := ⟨3, ![15, 768, 2048]⟩
abbrev S15x2048 : Shape := ⟨2, ![15, 2048]⟩
abbrev S15x1024 : Shape := ⟨2, ![15, 1024]⟩
abbrev S15x1024x768 : Shape := ⟨3, ![15, 1024, 768]⟩
abbrev S768x4096 : Shape := ⟨2, ![768, 4096]⟩
abbrev S4096 : Shape := ⟨1, ![4096]⟩
abbrev S2048 : Shape := ⟨1, ![2048]⟩
abbrev S2048x768 : Shape := ⟨2, ![2048, 768]⟩
abbrev S768 : Shape := ⟨1, ![768]⟩
abbrev S768x15 : Shape := ⟨2, ![768, 15]⟩
abbrev S_ : Shape := ⟨0, ![]⟩
abbrev S768x16 : Shape := ⟨2, ![768, 16]⟩
abbrev S15x1x2048 : Shape := ⟨3, ![15, 1, 2048]⟩
abbrev S15x1x1024 : Shape := ⟨3, ![15, 1, 1024]⟩
abbrev S15x1x768 : Shape := ⟨3, ![15, 1, 768]⟩
abbrev S1x768x2048 : Shape := ⟨3, ![1, 768, 2048]⟩
abbrev S1x1x2048 : Shape := ⟨3, ![1, 1, 2048]⟩
abbrev S1x1x1024 : Shape := ⟨3, ![1, 1, 1024]⟩
abbrev S1x1024x768 : Shape := ⟨3, ![1, 1024, 768]⟩
abbrev S1x1x768 : Shape := ⟨3, ![1, 1, 768]⟩
abbrev S2048x16 : Shape := ⟨2, ![2048, 16]⟩
abbrev S256x768 : Shape := ⟨2, ![256, 768]⟩
abbrev S256x16 : Shape := ⟨2, ![256, 16]⟩
abbrev S256 : Shape := ⟨1, ![256]⟩
abbrev S256x1 : Shape := ⟨2, ![256, 1]⟩
abbrev S768x2048 : Shape := ⟨2, ![768, 2048]⟩
abbrev S256x2048 : Shape := ⟨2, ![256, 2048]⟩
abbrev S1x2048 : Shape := ⟨2, ![1, 2048]⟩
abbrev S256x1024 : Shape := ⟨2, ![256, 1024]⟩
abbrev S1x1024 : Shape := ⟨2, ![1, 1024]⟩
abbrev S1024x768 : Shape := ⟨2, ![1024, 768]⟩
abbrev S1x768 : Shape := ⟨2, ![1, 768]⟩
abbrev S1x4096 : Shape := ⟨2, ![1, 4096]⟩
abbrev S256x4096 : Shape := ⟨2, ![256, 4096]⟩

abbrev nBuf : Space → Nat
  | .hbm => 26
  | .vmem => 25
  | .smem => 0
  | _ => 0

abbrev bufTy : (tb : Table) → Fin (tcTables nBuf tb) → BufTy
  | .hbm, ⟨0, _⟩ => ⟨S2048x1x768, .f32⟩
  | .hbm, ⟨1, _⟩ => ⟨S15x768, .f32⟩
  | .hbm, ⟨2, _⟩ => ⟨S15x768x2048, .f32⟩
  | .hbm, ⟨3, _⟩ => ⟨S15x2048, .f32⟩
  | .hbm, ⟨4, _⟩ => ⟨S15x1024, .f32⟩
  | .hbm, ⟨5, _⟩ => ⟨S15x1024x768, .f32⟩
  | .hbm, ⟨6, _⟩ => ⟨S15x768, .f32⟩
  | .hbm, ⟨7, _⟩ => ⟨S768x4096, .f32⟩
  | .hbm, ⟨8, _⟩ => ⟨S4096, .f32⟩
  | .hbm, ⟨9, _⟩ => ⟨S2048, .f32⟩
  | .hbm, ⟨10, _⟩ => ⟨S2048x768, .f32⟩
  | .hbm, ⟨11, _⟩ => ⟨S768, .f32⟩
  | .hbm, ⟨12, _⟩ => ⟨S2048x768, .f32⟩
  | .hbm, ⟨13, _⟩ => ⟨S768x15, .f32⟩
  | .hbm, ⟨14, _⟩ => ⟨S_, .i32⟩
  | .hbm, ⟨15, _⟩ => ⟨S_, .f32⟩
  | .hbm, ⟨16, _⟩ => ⟨S768x16, .f32⟩
  | .hbm, ⟨17, _⟩ => ⟨S15x1x2048, .f32⟩
  | .hbm, ⟨18, _⟩ => ⟨S15x1x1024, .f32⟩
  | .hbm, ⟨19, _⟩ => ⟨S15x1x768, .f32⟩
  | .hbm, ⟨20, _⟩ => ⟨S2048x768, .f32⟩
  | .hbm, ⟨21, _⟩ => ⟨S1x4096, .f32⟩
  | .hbm, ⟨22, _⟩ => ⟨S1x2048, .f32⟩
  | .hbm, ⟨23, _⟩ => ⟨S1x768, .f32⟩
  | .hbm, ⟨24, _⟩ => ⟨S2048x768, .f32⟩
  | .hbm, ⟨25, _⟩ => ⟨S2048x1x768, .f32⟩
  | .local _ .vmem, ⟨0, _⟩ => ⟨S768x16, .f32⟩
  | .local _ .vmem, ⟨1, _⟩ => ⟨S2048x768, .f32⟩
  | .local _ .vmem, ⟨2, _⟩ => ⟨S1x768x2048, .f32⟩
  | .local _ .vmem, ⟨3, _⟩ => ⟨S1x768x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1x1024, .f32⟩
  | .local _ .vmem, ⟨7, _⟩ => ⟨S1x1x1024, .f32⟩
  | .local _ .vmem, ⟨8, _⟩ => ⟨S1x1024x768, .f32⟩
  | .local _ .vmem, ⟨9, _⟩ => ⟨S1x1024x768, .f32⟩
  | .local _ .vmem, ⟨10, _⟩ => ⟨S1x1x768, .f32⟩
  | .local _ .vmem, ⟨11, _⟩ => ⟨S1x1x768, .f32⟩
  | .local _ .vmem, ⟨12, _⟩ => ⟨S2048x768, .f32⟩
  | .local _ .vmem, ⟨13, _⟩ => ⟨S2048x16, .f32⟩
  | .local _ .vmem, ⟨14, _⟩ => ⟨S256x768, .f32⟩
  | .local _ .vmem, ⟨15, _⟩ => ⟨S256x768, .f32⟩
  | .local _ .vmem, ⟨16, _⟩ => ⟨S256x768, .f32⟩
  | .local _ .vmem, ⟨17, _⟩ => ⟨S256x768, .f32⟩
  | .local _ .vmem, ⟨18, _⟩ => ⟨S768x4096, .f32⟩
  | .local _ .vmem, ⟨19, _⟩ => ⟨S1x4096, .f32⟩
  | .local _ .vmem, ⟨20, _⟩ => ⟨S1x2048, .f32⟩
  | .local _ .vmem, ⟨21, _⟩ => ⟨S2048x768, .f32⟩
  | .local _ .vmem, ⟨22, _⟩ => ⟨S1x768, .f32⟩
  | .local _ .vmem, ⟨23, _⟩ => ⟨S256x768, .f32⟩
  | .local _ .vmem, ⟨24, _⟩ => ⟨S256x768, .f32⟩
  | _, _ => ⟨S2048x1x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_c : Ref sig .tc := ⟨.hbm, 14, rfl⟩
abbrev main_call0_v0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_scratch0 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg3_0 : Ref sig .tc := ⟨.vmem, 19, rfl⟩
abbrev cc1_stg4_0 : Ref sig .tc := ⟨.vmem, 20, rfl⟩
abbrev cc1_stg5_0 : Ref sig .tc := ⟨.vmem, 21, rfl⟩
abbrev cc1_stg6_0 : Ref sig .tc := ⟨.vmem, 22, rfl⟩
abbrev cc1_stg7_0 : Ref sig .tc := ⟨.vmem, 23, rfl⟩
abbrev cc1_stg7_1 : Ref sig .tc := ⟨.vmem, 24, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc1_sem0_0 : DmaSem sig := 13
abbrev cc1_sem0_1 : DmaSem sig := 14
abbrev cc1_sem1_0 : DmaSem sig := 15
abbrev cc1_sem1_1 : DmaSem sig := 16
abbrev cc1_sem2_0 : DmaSem sig := 17
abbrev cc1_sem3_0 : DmaSem sig := 18
abbrev cc1_sem4_0 : DmaSem sig := 19
abbrev cc1_sem5_0 : DmaSem sig := 20
abbrev cc1_sem6_0 : DmaSem sig := 21
abbrev cc1_sem7_0 : DmaSem sig := 22
abbrev cc1_sem7_1 : DmaSem sig := 23

abbrev nD : Nat := 1
abbrev τ : Topo := Topo.v7x

variable {F : FTy → Type} [FloatOps F]

abbrev grid0 : Pipeline.Grid := ⟨2, ![15, 8], ![false, false]⟩

def k0_off1 (i : grid0.Coords) : Fin 2 → Nat :=
  let arg1 : BitVec 32 := BitVec.ofNat 32 (i 1).val
  let c256_i32 : BitVec 32 := 256#32
  let v0 : BitVec 32 := Scalar.muli arg1 c256_i32
  let v1 : Index := Scalar.indexCast v0
  let c0 : Index := 0#32
  ![v1.toNat, 0]
def k0_cond1 (i : grid0.Coords) : BitVec 1 :=
  let arg0 : BitVec 32 := BitVec.ofNat 32 (i 0).val
  let c0_i32 : BitVec 32 := 0#32
  let v5 : BitVec 1 := Scalar.cmpi .eq arg0 c0_i32
  let v6 : BitVec 32 := Scalar.extui v5
  let c0_i32_0 : BitVec 32 := 0#32
  let v7 : BitVec 1 := Scalar.cmpi .ne v6 c0_i32_0
  v7

def k0_off2 (i : grid0.Coords) : Fin 2 → Nat :=
  let arg1 : BitVec 32 := BitVec.ofNat 32 (i 1).val
  let c256_i32_48 : BitVec 32 := 256#32
  let v133 : BitVec 32 := Scalar.muli arg1 c256_i32_48
  let v134 : Index := Scalar.indexCast v133
  let c0_49 : Index := 0#32
  ![v134.toNat, 0]
def k0_off3 (i : grid0.Coords) : Fin 2 → Nat :=
  let arg1 : BitVec 32 := BitVec.ofNat 32 (i 1).val
  let c256_i32_20 : BitVec 32 := 256#32
  let v39 : BitVec 32 := Scalar.muli arg1 c256_i32_20
  let v40 : Index := Scalar.indexCast v39
  let c0_21 : Index := 0#32
  ![v40.toNat, 0]
def k0_cond2 (i : grid0.Coords) : BitVec 1 :=
  let arg0 : BitVec 32 := BitVec.ofNat 32 (i 0).val
  let c0_i32_24 : BitVec 32 := 0#32
  let v46 : BitVec 1 := Scalar.cmpi .eq arg0 c0_i32_24
  let v47 : BitVec 32 := Scalar.extui v46
  let c0_i32_25 : BitVec 32 := 0#32
  let v48 : BitVec 1 := Scalar.cmpi .ne v47 c0_i32_25
  v48

def k0_off4 (i : grid0.Coords) : Fin 2 → Nat :=
  let arg1 : BitVec 32 := BitVec.ofNat 32 (i 1).val
  let c256_i32_28 : BitVec 32 := 256#32
  let v54 : BitVec 32 := Scalar.muli arg1 c256_i32_28
  let v55 : Index := Scalar.indexCast v54
  let c0_29 : Index := 0#32
  ![v55.toNat, 0]
def k0_cond3 (i : grid0.Coords) : BitVec 1 :=
  let arg0 : BitVec 32 := BitVec.ofNat 32 (i 0).val
  let c0_i32_26 : BitVec 32 := 0#32
  let v49 : BitVec 1 := Scalar.cmpi .ne arg0 c0_i32_26
  let v50 : BitVec 32 := Scalar.extui v49
  let c0_i32_27 : BitVec 32 := 0#32
  let v51 : BitVec 1 := Scalar.cmpi .ne v50 c0_i32_27
  v51

def k0_off5 (i : grid0.Coords) : Fin 2 → Nat :=
  let arg1 : BitVec 32 := BitVec.ofNat 32 (i 1).val
  let c256_i32_28 : BitVec 32 := 256#32
  let v52 : BitVec 32 := Scalar.muli arg1 c256_i32_28
  let v53 : Index := Scalar.indexCast v52
  let c0_29 : Index := 0#32
  ![v53.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S768x16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S2048x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x768x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1024x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S2048x768 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x768 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S256x768 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S768x4096 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x4096 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x2048 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S2048x768 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x768 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S256x768 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]
-- ==== KernelIdeal.lean ====
variable {F : FTy → Type} [FloatOps F] [Named F]
def κ : String → Option EReal := fun
  | "mask" => some ⊥
  | _ => none
-- ==== ReferenceIdeal.lean ====
abbrev S2048x1x768 : Shape := ⟨3, ![2048, 1, 768]⟩
abbrev S15x768 : Shape := ⟨2, ![15, 768]⟩
abbrev S15x768x2048 : Shape := ⟨3, ![15, 768, 2048]⟩
abbrev S15x2048 : Shape := ⟨2, ![15, 2048]⟩
abbrev S15x1024 : Shape := ⟨2, ![15, 1024]⟩
abbrev S15x1024x768 : Shape := ⟨3, ![15, 1024, 768]⟩
abbrev S768x4096 : Shape := ⟨2, ![768, 4096]⟩
abbrev S4096 : Shape := ⟨1, ![4096]⟩
abbrev S2048 : Shape := ⟨1, ![2048]⟩
abbrev S2048x768 : Shape := ⟨2, ![2048, 768]⟩
abbrev S768 : Shape := ⟨1, ![768]⟩
abbrev S768x15 : Shape := ⟨2, ![768, 15]⟩
abbrev S2048x15 : Shape := ⟨2, ![2048, 15]⟩
abbrev S_ : Shape := ⟨0, ![]⟩
abbrev S2048x1 : Shape := ⟨2, ![2048, 1]⟩
abbrev S2048x3 : Shape := ⟨2, ![2048, 3]⟩
abbrev S2048x3x1 : Shape := ⟨3, ![2048, 3, 1]⟩
abbrev S1x1x15 : Shape := ⟨3, ![1, 1, 15]⟩
abbrev S2048x3x15 : Shape := ⟨3, ![2048, 3, 15]⟩
abbrev S15x2048x2048 : Shape := ⟨3, ![15, 2048, 2048]⟩
abbrev S15x1x2048 : Shape := ⟨3, ![15, 1, 2048]⟩
abbrev S15x1x1024 : Shape := ⟨3, ![15, 1, 1024]⟩
abbrev S15x2048x1024 : Shape := ⟨3, ![15, 2048, 1024]⟩
abbrev S15x2048x768 : Shape := ⟨3, ![15, 2048, 768]⟩
abbrev S15x1x768 : Shape := ⟨3, ![15, 1, 768]⟩
abbrev S2048x4096 : Shape := ⟨2, ![2048, 4096]⟩
abbrev S1x4096 : Shape := ⟨2, ![1, 4096]⟩
abbrev S2048x2048 : Shape := ⟨2, ![2048, 2048]⟩
abbrev S1x2048 : Shape := ⟨2, ![1, 2048]⟩
abbrev S1x768 : Shape := ⟨2, ![1, 768]⟩

abbrev nBuf : Space → Nat
  | .hbm => 97
  | .vmem => 0
  | .smem => 0
  | _ => 0

abbrev bufTy : (tb : Table) → Fin (tcTables nBuf tb) → BufTy
  | .hbm, ⟨0, _⟩ => ⟨S2048x1x768, .f32⟩
  | .hbm, ⟨1, _⟩ => ⟨S15x768, .f32⟩
  | .hbm, ⟨2, _⟩ => ⟨S15x768x2048, .f32⟩
  | .hbm, ⟨3, _⟩ => ⟨S15x2048, .f32⟩
  | .hbm, ⟨4, _⟩ => ⟨S15x1024, .f32⟩
  | .hbm, ⟨5, _⟩ => ⟨S15x1024x768, .f32⟩
  | .hbm, ⟨6, _⟩ => ⟨S15x768, .f32⟩
  | .hbm, ⟨7, _⟩ => ⟨S768x4096, .f32⟩
  | .hbm, ⟨8, _⟩ => ⟨S4096, .f32⟩
  | .hbm, ⟨9, _⟩ => ⟨S2048, .f32⟩
  | .hbm, ⟨10, _⟩ => ⟨S2048x768, .f32⟩
  | .hbm, ⟨11, _⟩ => ⟨S768, .f32⟩
  | .hbm, ⟨12, _⟩ => ⟨S2048x768, .f32⟩
  | .hbm, ⟨13, _⟩ => ⟨S768x15, .f32⟩
  | .hbm, ⟨14, _⟩ => ⟨S2048x15, .f32⟩
  | .hbm, ⟨15, _⟩ => ⟨S_, .f32⟩
  | .hbm, ⟨16, _⟩ => ⟨S2048, .f32⟩
  | .hbm, ⟨17, _⟩ => ⟨S_, .f32⟩
  | .hbm, ⟨18, _⟩ => ⟨S2048, .f32⟩
  | .hbm, ⟨19, _⟩ => ⟨S2048, .f32⟩
  | .hbm, ⟨20, _⟩ => ⟨S2048x1, .f32⟩
  | .hbm, ⟨21, _⟩ => ⟨S2048x15, .f32⟩
  | .hbm, ⟨22, _⟩ => ⟨S2048x15, .f32⟩
  | .hbm, ⟨23, _⟩ => ⟨S2048x15, .f32⟩
  | .hbm, ⟨24, _⟩ => ⟨S_, .f32⟩
  | .hbm, ⟨25, _⟩ => ⟨S2048, .f32⟩
  | .hbm, ⟨26, _⟩ => ⟨S2048x1, .f32⟩
  | .hbm, ⟨27, _⟩ => ⟨S2048x15, .f32⟩
  | .hbm, ⟨28, _⟩ => ⟨S2048x15, .f32⟩
  | .hbm, ⟨29, _⟩ => ⟨S2048x3, .f32⟩
  | .hbm, ⟨30, _⟩ => ⟨S2048x3, .i32⟩
  | .hbm, ⟨31, _⟩ => ⟨S_, .f32⟩
  | .hbm, ⟨32, _⟩ => ⟨S2048, .f32⟩
  | .hbm, ⟨33, _⟩ => ⟨S2048x1, .f32⟩
  | .hbm, ⟨34, _⟩ => ⟨S_, .f32⟩
  | .hbm, ⟨35, _⟩ => ⟨S2048x1, .f32⟩
  | .hbm, ⟨36, _⟩ => ⟨S2048x1, .f32⟩
  | .hbm, ⟨37, _⟩ => ⟨S2048x3, .f32⟩
  | .hbm, ⟨38, _⟩ => ⟨S2048x3, .f32⟩
  | .hbm, ⟨39, _⟩ => ⟨S2048x3x1, .i32⟩
  | .hbm, ⟨40, _⟩ => ⟨S1x1x15, .i32⟩
  | .hbm, ⟨41, _⟩ => ⟨S2048x3x15, .i32⟩
  | .hbm, ⟨42, _⟩ => ⟨S2048x3x15, .i32⟩
  | .hbm, ⟨43, _⟩ => ⟨S2048x3x15, .i1⟩
  | .hbm, ⟨44, _⟩ => ⟨S2048x3x15, .f32⟩
  | .hbm, ⟨45, _⟩ => ⟨S2048x15, .f32⟩
  | .hbm, ⟨46, _⟩ => ⟨S15x2048x2048, .f32⟩
  | .hbm, ⟨47, _⟩ => ⟨S15x2048x2048, .f32⟩
  | .hbm, ⟨48, _⟩ => ⟨S15x1x2048, .f32⟩
  | .hbm, ⟨49, _⟩ => ⟨S15x2048x2048, .f32⟩
  | .hbm, ⟨50, _⟩ => ⟨S15x2048x2048, .f32⟩
  | .hbm, ⟨51, _⟩ => ⟨S15x1x1024, .f32⟩
  | .hbm, ⟨52, _⟩ => ⟨S15x2048x1024, .f32⟩
  | .hbm, ⟨53, _⟩ => ⟨S15x2048x1024, .f32⟩
  | .hbm, ⟨54, _⟩ => ⟨S_, .f32⟩
  | .hbm, ⟨55, _⟩ => ⟨S15x2048x1024, .f32⟩
  | .hbm, ⟨56, _⟩ => ⟨S15x2048x1024, .f32⟩
  | .hbm, ⟨57, _⟩ => ⟨S15x2048x1024, .f32⟩
  | .hbm, ⟨58, _⟩ => ⟨S_, .f32⟩
  | .hbm, ⟨59, _⟩ => ⟨S15x2048x1024, .f32⟩
  | .hbm, ⟨60, _⟩ => ⟨S15x2048x1024, .f32⟩
  | .hbm, ⟨61, _⟩ => ⟨S15x2048x1024, .f32⟩
  | .hbm, ⟨62, _⟩ => ⟨S15x2048x1024, .f32⟩
  | .hbm, ⟨63, _⟩ => ⟨S15x2048x1024, .f32⟩
  | .hbm, ⟨64, _⟩ => ⟨S15x2048x1024, .f32⟩
  | .hbm, ⟨65, _⟩ => ⟨S15x2048x1024, .f32⟩
  | .hbm, ⟨66, _⟩ => ⟨S15x2048x768, .f32⟩
  | .hbm, ⟨67, _⟩ => ⟨S15x1x768, .f32⟩
  | .hbm, ⟨68, _⟩ => ⟨S15x2048x768, .f32⟩
  | .hbm, ⟨69, _⟩ => ⟨S15x2048x768, .f32⟩
  | .hbm, ⟨70, _⟩ => ⟨S2048x768, .f32⟩
  | .hbm, ⟨71, _⟩ => ⟨S2048x1x768, .f32⟩
  | .hbm, ⟨72, _⟩ => ⟨S2048x4096, .f32⟩
  | .hbm, ⟨73, _⟩ => ⟨S1x4096, .f32⟩
  | .hbm, ⟨74, _⟩ => ⟨S2048x4096, .f32⟩
  | .hbm, ⟨75, _⟩ => ⟨S2048x4096, .f32⟩
  | .hbm, ⟨76, _⟩ => ⟨S2048x2048, .f32⟩
  | .hbm, ⟨77, _⟩ => ⟨S2048x2048, .f32⟩
  | .hbm, ⟨78, _⟩ => ⟨S_, .f32⟩
  | .hbm, ⟨79, _⟩ => ⟨S2048x2048, .f32⟩
  | .hbm, ⟨80, _⟩ => ⟨S2048x2048, .f32⟩
  | .hbm, ⟨81, _⟩ => ⟨S2048x2048, .f32⟩
  | .hbm, ⟨82, _⟩ => ⟨S_, .f32⟩
  | .hbm, ⟨83, _⟩ => ⟨S2048x2048, .f32⟩
  | .hbm, ⟨84, _⟩ => ⟨S2048x2048, .f32⟩
  | .hbm, ⟨85, _⟩ => ⟨S2048x2048, .f32⟩
  | .hbm, ⟨86, _⟩ => ⟨S2048x2048, .f32⟩
  | .hbm, ⟨87, _⟩ => ⟨S2048x2048, .f32⟩
  | .hbm, ⟨88, _⟩ => ⟨S1x2048, .f32⟩
  | .hbm, ⟨89, _⟩ => ⟨S2048x2048, .f32⟩
  | .hbm, ⟨90, _⟩ => ⟨S2048x2048, .f32⟩
  | .hbm, ⟨91, _⟩ => ⟨S2048x768, .f32⟩
  | .hbm, ⟨92, _⟩ => ⟨S1x768, .f32⟩
  | .hbm, ⟨93, _⟩ => ⟨S2048x768, .f32⟩
  | .hbm, ⟨94, _⟩ => ⟨S2048x768, .f32⟩
  | .hbm, ⟨95, _⟩ => ⟨S2048x1x768, .f32⟩
  | .hbm, ⟨96, _⟩ => ⟨S2048x1x768, .f32⟩
  | _, _ => ⟨S2048x1x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_cst : Ref sig .tc := ⟨.hbm, 15, rfl⟩
abbrev main_v3 : Ref sig .tc := ⟨.hbm, 16, rfl⟩
abbrev main_cst_0 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_cst_1 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_values : Ref sig .tc := ⟨.hbm, 29, rfl⟩
abbrev main_indices : Ref sig .tc := ⟨.hbm, 30, rfl⟩
abbrev main_cst_2 : Ref sig .tc := ⟨.hbm, 31, rfl⟩
abbrev main_v14 : Ref sig .tc := ⟨.hbm, 32, rfl⟩
abbrev main_v15 : Ref sig .tc := ⟨.hbm, 33, rfl⟩
abbrev main_cst_3 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_call0_v0 : Ref sig .tc := ⟨.hbm, 39, rfl⟩
abbrev main_call0_v1 : Ref sig .tc := ⟨.hbm, 40, rfl⟩
abbrev main_call0_v2 : Ref sig .tc := ⟨.hbm, 41, rfl⟩
abbrev main_call0_v3 : Ref sig .tc := ⟨.hbm, 42, rfl⟩
abbrev main_call0_v4 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_cst_4 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_cst_5 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_cst_6 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_cst_7 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩

abbrev nD : Nat := 1
abbrev τ : Topo := Topo.v7x

variable {F : FTy → Type} [FloatOps F]
-- ==== Proof.Ideal.Body.lean ====
/- The bodies' payloads, and the routed experts' body run on whole buffers at the first expert and at the later ones.  (The idealized kernel.) -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp
public import Idealize.ShloMosaic.Lib.VecWindow

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! # The routed-experts body: what one grid point does to the accumulator and to the routing table

The body reads tile `i 1` of the tokens, and at expert 0 computes the tile's routing weights first. Everything is stated
of the WHOLE contents of the staging buffers, by windows of them. -/

section Reads

variable {κ : Kind} {sp : Space} {e : EltTy} {Val : EltTy → Type}

/-- A load at a unit-stride rectangle reads a window of the contents. -/
theorem readAt_window {s : Shape} (v : View sig κ sp s e) (f : v.ty.Contents Val) {off size : Fin s.rank → ℕ}
    (inb : ∀ a, off a + size a ≤ s.size a) :
    v.readAt Val (Rect.unit off size inb).toLoadRect f = VecWindow.window (v.read Val f) off size inb := rfl

/-- A load of a whole rank-2 buffer reads its contents. -/
theorem readAt_whole2 {d : Fin 2 → ℕ} (v : View sig κ sp ⟨2, d⟩ e) (f : v.ty.Contents Val)
    (inb : ∀ a : Fin 2, (![0, 0] : Fin 2 → ℕ) a + d a ≤ d a) :
    v.readAt Val (Rect.unit (s := ⟨2, d⟩) ![0, 0] d inb).toLoadRect f = v.read Val f := by
  rw [readAt_window]
  refine funext fun y => congrArg (v.read Val f) (funext fun a => Fin.ext ?_)
  show (![0, 0] : Fin 2 → ℕ) a + 1 * (y a).val = (y a).val
  match a with
  | 0 => show 0 + 1 * (y 0).val = (y 0).val; omega
  | 1 => show 0 + 1 * (y 1).val = (y 1).val; omega

/-- A load of a whole rank-3 buffer reads its contents. -/
theorem readAt_whole3 {d : Fin 3 → ℕ} (v : View sig κ sp ⟨3, d⟩ e) (f : v.ty.Contents Val)
    (inb : ∀ a : Fin 3, (![0, 0, 0] : Fin 3 → ℕ) a + d a ≤ d a) :
    v.readAt Val (Rect.unit (s := ⟨3, d⟩) ![0, 0, 0] d inb).toLoadRect f = v.read Val f := by
  rw [readAt_window]
  refine funext fun y => congrArg (v.read Val f) (funext fun a => Fin.ext ?_)
  show (![0, 0, 0] : Fin 3 → ℕ) a + 1 * (y a).val = (y a).val
  match a with
  | 0 => show 0 + 1 * (y 0).val = (y 0).val; omega
  | 1 => show 0 + 1 * (y 1).val = (y 1).val; omega
  | 2 => show 0 + 1 * (y 2).val = (y 2).val; omega

end Reads

/-- The table is stored where it is read. -/
theorem k0_off2_eq : ∀ i : grid0.Coords, k0_off2 i = k0_off3 i := by decide +kernel

/-- The rows of tile `i 1` of the tokens. -/
abbrev tokens (i : grid0.Coords) (x : Vec F S2048x768 .f32) : Vec F S256x768 .f32 :=
  VecWindow.window x (k0_off1 i) S256x768.size (k0_off1_inb i)

/-- The lane numbers. -/
abbrev lanes : IVec S256x16 32 := iota .tc S256x16 32 [1] iota_S256x16_d1_w32

/-- The routing weights of a tile of tokens. -/
def routeTile (x : Vec F S256x768 .f32) (g : Vec F S768x16 .f32) : FVec F S256x16 .f32 :=
  k0_pay16 (k0_pay6 (F := F)) (k0_pay7 (k0_pay15 x) lanes g) (k0_pay9 (k0_pay15 x) lanes g) (k0_pay10 (k0_pay15 x) lanes g)
    (k0_pay11 (k0_pay15 x) lanes g) (k0_pay12 (k0_pay15 x) lanes g) (k0_pay13 (k0_pay15 x) lanes g) (k0_pay14 (k0_pay15 x) lanes g)

/-- What expert 0 stores into a tile of the accumulator, from the tile's routing weights `r`. -/
def firstTile (x : Vec F S256x768 .f32) (w1 : Vec F S1x768x2048 .f32) (b1 : Vec F S1x1x2048 .f32) (mb : Vec F S1x1x1024 .f32)
    (w2 : Vec F S1x1024x768 .f32) (b2 : Vec F S1x1x768 .f32) (r : Vec F S256x16 .f32) (e : BitVec 32) : FVec F S256x768 .f32 :=
  k0_pay3 e lanes (k0_pay17 x w1 b1 mb w2) b2 r

/-- What a later expert `e` stores into a tile of the accumulator that holds `a`. -/
def laterTile (x : Vec F S256x768 .f32) (w1 : Vec F S1x768x2048 .f32) (b1 : Vec F S1x1x2048 .f32) (mb : Vec F S1x1x1024 .f32)
    (w2 : Vec F S1x1024x768 .f32) (b2 : Vec F S1x1x768 .f32) (r : Vec F S256x16 .f32) (e : BitVec 32) (a : Vec F S256x768 .f32) : FVec F S256x768 .f32 :=
  k0_pay4 e lanes (k0_pay17 x w1 b1 mb w2) b2 r a

set_option maxHeartbeats 1000000 in
/-- Expert 0: the tile's routing weights go into the table, and the tile of the accumulator is written for the first time. -/
theorem body_first (c : Dev nD) (i : grid0.Coords) (arg2 : Memref sig .tc .vmem S768x16 .f32) (harg2 : arg2.IsWhole) (arg3 : Memref sig .tc .vmem S2048x768 .f32) (harg3 : arg3.IsWhole) (arg4 : Memref sig .tc .vmem S1x768x2048 .f32) (harg4 : arg4.IsWhole) (arg5 : Memref sig .tc .vmem S1x1x2048 .f32) (harg5 : arg5.IsWhole) (arg6 : Memref sig .tc .vmem S1x1x1024 .f32) (harg6 : arg6.IsWhole) (arg7 : Memref sig .tc .vmem S1x1024x768 .f32) (harg7 : arg7.IsWhole) (arg8 : Memref sig .tc .vmem S1x1x768 .f32) (harg8 : arg8.IsWhole) (arg9 : Memref sig .tc .vmem S2048x768 .f32) (harg9 : arg9.IsWhole) (arg10 : Memref sig .tc .vmem S2048x16 .f32) (harg10 : arg10.IsWhole)
    (hc0 : k0_cond1 i = 1#1) (hc1 : k0_cond2 i = 1#1) (hc2 : ¬k0_cond3 i = 1#1)
    (x0 : Vec F S768x16 .f32) (x1 : Vec F S2048x768 .f32) (x2 : Vec F S1x768x2048 .f32) (x3 : Vec F S1x1x2048 .f32)
    (x4 : Vec F S1x1x1024 .f32) (x5 : Vec F S1x1024x768 .f32) (x6 : Vec F S1x1x768 .f32) (y : Vec F S2048x768 .f32) (s : Vec F S2048x16 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare y ∗ owns (c : Thread nD τ) arg10 fullShare s
      ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare (VecWindow.put y (k0_off4 i) S256x768.size (firstTile (tokens i x1) x2 x3 x4 x5 x6 (routeTile (tokens i x1) x0) (BitVec.ofNat 32 (i 0).val)))
          ∗ owns (c : Thread nD τ) arg10 fullShare (VecWindow.put s (k0_off2 i) S256x16.size (routeTile (tokens i x1) x0))) -∗ K ⟨⟩))
      ⊢ wp frame (wpE (defs₀ (F := F)) Variants.none c none) E (cc0__moe_body i arg2 harg2 arg3 harg3 arg4 harg4 arg5 harg5 arg6 harg6 arg7 harg7 arg8 harg8 arg9 harg9 arg10 harg10) K := by
  simp only [cc0__moe_body_eq_skeleton]; unfold cc0__moe_body_skel
  simp only [k0_part2_eq_skeleton, k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs0, %hfs, HS0⟩, Hk⟩
  subst hf0 hf1 hf2 hf3 hf4 hf5 hf6 hf7 hfs
  sl_exec (disch := first | sl_exact hc0 | sl_exact hc1 | sl_exact hc2)
  sl_step
  iapply Hk
  isplitl [H0]
  · iexists _; isplitr; · ipureintro; rfl
    iexact H0
  isplitl [H1]
  · iexists _; isplitr; · ipureintro; rfl
    iexact H1
  isplitl [H2]
  · iexists _; isplitr; · ipureintro; rfl
    iexact H2
  isplitl [H3]
  · iexists _; isplitr; · ipureintro; rfl
    iexact H3
  isplitl [H4]
  · iexists _; isplitr; · ipureintro; rfl
    iexact H4
  isplitl [H5]
  · iexists _; isplitr; · ipureintro; rfl
    iexact H5
  isplitl [H6]
  · iexists _; isplitr; · ipureintro; rfl
    iexact H6
  isplitl [H7]
  · iexists _
    isplitr
    swap; · iexact H7
    ipureintro
    refine (View.read_writes_cons_put arg9.view f7 _ _ [] rfl).trans ?_
    rw [View.writes_nil]
    have hv : _root_.Cert.KernelIdeal.Hand.body_first.sl.v41 c i arg2 arg3 arg10 hc0 f0 f1 = routeTile (tokens i (arg3.view.read (Elt F) f1)) (arg2.view.read (Elt F) f0) := by
      unfold _root_.Cert.KernelIdeal.Hand.body_first.sl.v41 _root_.Cert.KernelIdeal.Hand.body_first.sl.HS0_1
      unfold View.readCov
      rw [readAt_window, View.read_writes_cons_put _ _ _ _ [] (k0_off2_eq i)]
      refine (VecWindow.window_put_same _ _ _ (k0_off3_inb i) _).trans ?_
      unfold _root_.Cert.KernelIdeal.Hand.body_first.sl.r _root_.Cert.KernelIdeal.Hand.body_first.sl.r_1 _root_.Cert.KernelIdeal.Hand.body_first.sl.r_2 _root_.Cert.KernelIdeal.Hand.body_first.sl.r_3 _root_.Cert.KernelIdeal.Hand.body_first.sl.r_4 _root_.Cert.KernelIdeal.Hand.body_first.sl.r_5 _root_.Cert.KernelIdeal.Hand.body_first.sl.r_6
      rw [readAt_whole2, readAt_window]
      rfl
    rw [hv]
    unfold _root_.Cert.KernelIdeal.Hand.body_first.sl.r_7
    rw [readAt_whole3, readAt_whole3, readAt_whole3, readAt_whole3, readAt_whole3, readAt_window]
    rfl
  iexists _
  isplitr
  swap; · iexact HS0
  ipureintro
  unfold _root_.Cert.KernelIdeal.Hand.body_first.sl.HS0_1
  refine (View.read_writes_cons_put arg10.view fs0 _ _ [] rfl).trans ?_
  rw [View.writes_nil]
  refine congrArg (VecWindow.put _ _ _) ?_
  unfold _root_.Cert.KernelIdeal.Hand.body_first.sl.r _root_.Cert.KernelIdeal.Hand.body_first.sl.r_1 _root_.Cert.KernelIdeal.Hand.body_first.sl.r_2 _root_.Cert.KernelIdeal.Hand.body_first.sl.r_3 _root_.Cert.KernelIdeal.Hand.body_first.sl.r_4 _root_.Cert.KernelIdeal.Hand.body_first.sl.r_5 _root_.Cert.KernelIdeal.Hand.body_first.sl.r_6
  rw [readAt_whole2, readAt_window]
  rfl

set_option maxHeartbeats 1000000 in
/-- A later expert: the tile of the accumulator takes the expert's weighted contribution. -/
theorem body_later (c : Dev nD) (i : grid0.Coords) (arg2 : Memref sig .tc .vmem S768x16 .f32) (harg2 : arg2.IsWhole) (arg3 : Memref sig .tc .vmem S2048x768 .f32) (harg3 : arg3.IsWhole) (arg4 : Memref sig .tc .vmem S1x768x2048 .f32) (harg4 : arg4.IsWhole) (arg5 : Memref sig .tc .vmem S1x1x2048 .f32) (harg5 : arg5.IsWhole) (arg6 : Memref sig .tc .vmem S1x1x1024 .f32) (harg6 : arg6.IsWhole) (arg7 : Memref sig .tc .vmem S1x1024x768 .f32) (harg7 : arg7.IsWhole) (arg8 : Memref sig .tc .vmem S1x1x768 .f32) (harg8 : arg8.IsWhole) (arg9 : Memref sig .tc .vmem S2048x768 .f32) (harg9 : arg9.IsWhole) (arg10 : Memref sig .tc .vmem S2048x16 .f32) (harg10 : arg10.IsWhole)
    (hc0 : ¬k0_cond1 i = 1#1) (hc1 : ¬k0_cond2 i = 1#1) (hc2 : k0_cond3 i = 1#1)
    (x0 : Vec F S768x16 .f32) (x1 : Vec F S2048x768 .f32) (x2 : Vec F S1x768x2048 .f32) (x3 : Vec F S1x1x2048 .f32)
    (x4 : Vec F S1x1x1024 .f32) (x5 : Vec F S1x1024x768 .f32) (x6 : Vec F S1x1x768 .f32) (y : Vec F S2048x768 .f32) (s : Vec F S2048x16 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare y ∗ owns (c : Thread nD τ) arg10 fullShare s
      ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare (VecWindow.put y (k0_off5 i) S256x768.size (laterTile (tokens i x1) x2 x3 x4 x5 x6 (VecWindow.window s (k0_off3 i) S256x16.size (k0_off3_inb i)) (BitVec.ofNat 32 (i 0).val) (VecWindow.window y (k0_off5 i) S256x768.size (k0_off5_inb i hc2))))
          ∗ owns (c : Thread nD τ) arg10 fullShare s) -∗ K ⟨⟩))
      ⊢ wp frame (wpE (defs₀ (F := F)) Variants.none c none) E (cc0__moe_body i arg2 harg2 arg3 harg3 arg4 harg4 arg5 harg5 arg6 harg6 arg7 harg7 arg8 harg8 arg9 harg9 arg10 harg10) K := by
  simp only [cc0__moe_body_eq_skeleton]; unfold cc0__moe_body_skel
  simp only [k0_part2_eq_skeleton, k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs0, %hfs, HS0⟩, Hk⟩
  subst hf0 hf1 hf2 hf3 hf4 hf5 hf6 hf7 hfs
  sl_exec (disch := first | sl_exact hc0 | sl_exact hc1 | sl_exact hc2)
  sl_step
  iapply Hk
  isplitl [H0]
  · iexists _; isplitr; · ipureintro; rfl
    iexact H0
  isplitl [H1]
  · iexists _; isplitr; · ipureintro; rfl
    iexact H1
  isplitl [H2]
  · iexists _; isplitr; · ipureintro; rfl
    iexact H2
  isplitl [H3]
  · iexists _; isplitr; · ipureintro; rfl
    iexact H3
  isplitl [H4]
  · iexists _; isplitr; · ipureintro; rfl
    iexact H4
  isplitl [H5]
  · iexists _; isplitr; · ipureintro; rfl
    iexact H5
  isplitl [H6]
  · iexists _; isplitr; · ipureintro; rfl
    iexact H6
  isplitl [H7]
  · iexists _
    isplitr
    swap; · iexact H7
    ipureintro
    refine (View.read_writes_cons_put arg9.view f7 _ _ [] rfl).trans ?_
    rw [View.writes_nil]
    unfold _root_.Cert.KernelIdeal.Hand.body_later.sl.r _root_.Cert.KernelIdeal.Hand.body_later.sl.v54
    rw [readAt_whole3, readAt_whole3, readAt_whole3, readAt_whole3, readAt_whole3, readAt_window, readAt_window, readAt_window]
    rfl
  iexists _
  isplitr
  swap; · iexact HS0
  ipureintro
  rfl

end Cert.KernelIdeal.Hand

end
-- ==== Proof.Ideal.Region0.lean ====
/- The routed-experts call: 15 experts by 8 tiles of tokens, its result array kept tile by tile.  (The idealized kernel.) -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp
public import Idealize.ShloMosaic.Lib.ValueIdxCore
public import proofs.«01_k».proof.Proof.Ideal.Body

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-! # The routed-experts region: 15 experts by 8 tiles of tokens

The result is one block, kept in its staging buffer for the whole run and written back at the end. Point `t` works on
tile `t % 8` at expert `t / 8`. What the buffer holds is named tile by tile once the tile has been written; before, a
tile may hold anything. -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds its block at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's staging buffer holds its block at every point. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's staging buffer holds its block at every point. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- Input window 3's staging buffer holds its block at every point. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
/-- Input window 4's staging buffer holds its block at every point. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
/-- Input window 5's staging buffer holds its block at every point. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)
/-- Input window 6's staging buffer holds its block at every point. -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

abbrev ms0_0 (t : Fin cfg0.N) : Memref sig .tc .vmem S768x16 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2048x768 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x768x2048 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1x2048 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1x1024 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1024x768 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x1x768 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S2048x768 .f32 := win0_7.stage (cfg0.slots t 7)
abbrev hs0_7 (t : Fin cfg0.N) : (ms0_7 t).IsWhole := hstage0_7 ((cfg0.slots t 7).cast nbuf0_7)
/-- The scratch operands: whole scoped buffers of the kernel's own, passed beside the windows. -/
abbrev scM0_0 : Memref sig .tc .vmem S2048x16 .f32 := Memref.whole cc0_scratch0

theorem PhiA0_eq (c : Dev nD) :
    (Pipeline.ΦA spec0 c : sProp 𝕄)
      = iprop(iprop((∃ d, owns (c : Thread nD τ) scM0_0 fullShare d) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg7_0), ((c : Thread nD τ).loc cc1_stg7_0) ↦{fullShare} f) ∗ (∃ f : Buf (Elt F) ((c : Thread nD τ).loc cc1_stg7_1), ((c : Thread nD τ).loc cc1_stg7_1) ↦{fullShare} f)) ∗ (∃ r, prngReg c r)) := by
  unfold Pipeline.ΦA; rw [scopedRest0_eq]; simp only [scM0_0, owns_whole]; try rfl

/-! ## The closed forms -/

/-- The point at which expert `e` meets tile `k`. -/
def pt (e k : ℕ) : Fin cfg0.N := ⟨(e * 8 + k) % 120, Nat.mod_lt _ (by decide)⟩

theorem pt_self (t : Fin cfg0.N) : pt (t.val / 8) (t.val % 8) = t := Fin.ext (by
  have h : t.val < 120 := t.isLt
  show (t.val / 8 * 8 + t.val % 8) % 120 = t.val
  omega)

/-- Tile `k`'s routing weights. -/
def route (c : Dev nD) (k : ℕ) : Vec F S256x16 .f32 :=
  routeTile (tokens (grid0.coords (pt 0 k)) (iblk0 V c 1 (pt 0 k))) (iblk0 V c 0 (pt 0 k))

/-- Tile `k` of the accumulator once expert `e` has been added. -/
def accTile (c : Dev nD) (k : ℕ) : ℕ → Vec F S256x768 .f32
  | 0 => firstTile (tokens (grid0.coords (pt 0 k)) (iblk0 V c 1 (pt 0 k))) (iblk0 V c 2 (pt 0 k)) (iblk0 V c 3 (pt 0 k)) (iblk0 V c 4 (pt 0 k)) (iblk0 V c 5 (pt 0 k)) (iblk0 V c 6 (pt 0 k))
      (route V c k) (BitVec.ofNat 32 (grid0.coords (pt 0 k) 0).val)
  | e + 1 => laterTile (tokens (grid0.coords (pt (e + 1) k)) (iblk0 V c 1 (pt (e + 1) k))) (iblk0 V c 2 (pt (e + 1) k)) (iblk0 V c 3 (pt (e + 1) k)) (iblk0 V c 4 (pt (e + 1) k)) (iblk0 V c 5 (pt (e + 1) k)) (iblk0 V c 6 (pt (e + 1) k))
      (route V c k) (BitVec.ofNat 32 (grid0.coords (pt (e + 1) k) 0).val) (accTile c k e)

theorem rowsX (k : Fin 8) : ∀ a, (![256 * k.val, 0] : Fin 2 → ℕ) a + S256x768.size a ≤ S2048x768.size a := by
  intro a
  match a with
  | ⟨0, _⟩ => show 256 * k.val + 256 ≤ 2048; omega
  | ⟨1, _⟩ => show 0 + 768 ≤ 768; omega

theorem rowsR (k : Fin 8) : ∀ a, (![256 * k.val, 0] : Fin 2 → ℕ) a + S256x16.size a ≤ S2048x16.size a := by
  intro a
  match a with
  | ⟨0, _⟩ => show 256 * k.val + 256 ≤ 2048; omega
  | ⟨1, _⟩ => show 0 + 16 ≤ 16; omega

/-- After the first `n` points the routing table holds the weights of every tile met so far. -/
def TableInv (c : Dev nD) (n : ℕ) (d : Vec F S2048x16 .f32) : Prop :=
  ∀ k : Fin 8, k.val < n → VecWindow.window d ![256 * k.val, 0] S256x16.size (rowsR k) = route V c k.val

/-- After the first `n` points each tile written so far holds the sum over the experts it has met. -/
def AccInv (c : Dev nD) (n : ℕ) (X : Vec F S2048x768 .f32) : Prop :=
  ∀ (k : Fin 8) (e : ℕ), e * 8 + k.val < n → n ≤ (e + 1) * 8 + k.val →
    VecWindow.window X ![256 * k.val, 0] S256x768.size (rowsX k) = accTile V c k.val e

/-- The region's result. -/
def out0 (c : Dev nD) : Vec F S2048x768 .f32 := fun j =>
  accTile V c ((j 0).val / 256) 14 (ValueIdx.ix2 ⟨(j 0).val % 256, Nat.mod_lt _ (by decide)⟩ ⟨(j 1).val, (j 1).isLt⟩)

theorem out0_of_inv (c : Dev nD) (X : Vec F S2048x768 .f32) (h : AccInv V c 120 X) : X = out0 V c := by
  funext j
  have hj : (j 0).val < 2048 := (j 0).isLt
  have hk : (j 0).val / 256 < 8 := by omega
  have := h ⟨(j 0).val / 256, hk⟩ 14 (by show 14 * 8 + (j 0).val / 256 < 120; omega) (by show 120 ≤ 15 * 8 + (j 0).val / 256; omega)
  refine Eq.trans ?_ (congrFun this (ValueIdx.ix2 ⟨(j 0).val % 256, Nat.mod_lt _ (by decide)⟩ ⟨(j 1).val, (j 1).isLt⟩))
  refine congrArg X (funext fun a => Fin.ext ?_)
  match a with
  | ⟨0, _⟩ => show (j 0).val = 256 * ((j 0).val / 256) + 1 * ((j 0).val % 256); omega
  | ⟨1, _⟩ => show (j 1).val = 0 + 1 * (j 1).val; omega

theorem off2_at : ∀ t : Fin cfg0.N, k0_off2 (grid0.coords t) = ![256 * (t.val % 8), 0] := by
  show ∀ t : Fin grid0.N, k0_off2 (grid0.coords t) = ![256 * (t.val % 8), 0]
  decide +kernel
theorem off3_at : ∀ t : Fin cfg0.N, k0_off3 (grid0.coords t) = ![256 * (t.val % 8), 0] := by
  show ∀ t : Fin grid0.N, k0_off3 (grid0.coords t) = ![256 * (t.val % 8), 0]
  decide +kernel
theorem off4_at : ∀ t : Fin cfg0.N, k0_off4 (grid0.coords t) = ![256 * (t.val % 8), 0] := by
  show ∀ t : Fin grid0.N, k0_off4 (grid0.coords t) = ![256 * (t.val % 8), 0]
  decide +kernel
theorem off5_at : ∀ t : Fin cfg0.N, k0_off5 (grid0.coords t) = ![256 * (t.val % 8), 0] := by
  show ∀ t : Fin grid0.N, k0_off5 (grid0.coords t) = ![256 * (t.val % 8), 0]
  decide +kernel
theorem cond1_at : ∀ t : Fin cfg0.N, k0_cond1 (grid0.coords t) = 1#1 ↔ t.val < 8 := by
  show ∀ t : Fin grid0.N, k0_cond1 (grid0.coords t) = 1#1 ↔ t.val < 8
  decide +kernel
theorem cond2_at : ∀ t : Fin cfg0.N, k0_cond2 (grid0.coords t) = 1#1 ↔ t.val < 8 := by
  show ∀ t : Fin grid0.N, k0_cond2 (grid0.coords t) = 1#1 ↔ t.val < 8
  decide +kernel
theorem cond3_at : ∀ t : Fin cfg0.N, k0_cond3 (grid0.coords t) = 1#1 ↔ ¬ t.val < 8 := by
  show ∀ t : Fin grid0.N, k0_cond3 (grid0.coords t) = 1#1 ↔ ¬ t.val < 8
  decide +kernel

/-- A tile just put reads back; the other tiles read what was there. -/
theorem window_put_tile (X : Vec F S2048x768 .f32) (o : Fin 2 → ℕ) (k : ℕ) (ho : o = ![256 * k, 0])
    (w : Vec F S256x768 .f32) (k' : Fin 8) :
    VecWindow.window (VecWindow.put X o S256x768.size w) ![256 * k'.val, 0] S256x768.size (rowsX k')
      = if k'.val = k then w else VecWindow.window X ![256 * k'.val, 0] S256x768.size (rowsX k') := by
  subst ho
  by_cases h : k'.val = k
  · subst h
    rw [if_pos rfl]
    exact VecWindow.window_put_same _ _ _ _ _
  · rw [if_neg h]
    refine VecWindow.window_put_of_disjoint _ _ _ _ _ _ _ (0 : Fin 2) ?_
    show 256 * k'.val + 256 ≤ 256 * k ∨ 256 * k + 256 ≤ 256 * k'.val
    omega

theorem window_put_row (X : Vec F S2048x16 .f32) (o : Fin 2 → ℕ) (k : ℕ) (ho : o = ![256 * k, 0])
    (w : Vec F S256x16 .f32) (k' : Fin 8) :
    VecWindow.window (VecWindow.put X o S256x16.size w) ![256 * k'.val, 0] S256x16.size (rowsR k')
      = if k'.val = k then w else VecWindow.window X ![256 * k'.val, 0] S256x16.size (rowsR k') := by
  subst ho
  by_cases h : k'.val = k
  · subst h
    rw [if_pos rfl]
    exact VecWindow.window_put_same _ _ _ _ _
  · rw [if_neg h]
    refine VecWindow.window_put_of_disjoint _ _ _ _ _ _ _ (0 : Fin 2) ?_
    show 256 * k'.val + 256 ≤ 256 * k ∨ 256 * k + 256 ≤ 256 * k'.val
    omega

theorem window_off {s : Shape} {α : Type} (x : s.Idx → α) {o o' : Fin s.rank → ℕ} (size : Fin s.rank → ℕ) (h : o = o')
    (inb : ∀ a, o a + size a ≤ s.size a) (inb' : ∀ a, o' a + size a ≤ s.size a) (y : (⟨s.rank, size⟩ : Shape).Idx) :
    VecWindow.window x o size inb y = VecWindow.window x o' size inb' y := by
  subst h; rfl

/-! ## One point keeps the invariants -/

theorem first_acc (c : Dev nD) (t : Fin cfg0.N) (ht : t.val < 8) (Y : Vec F S2048x768 .f32) (hY : AccInv V c t.val Y) :
    AccInv V c (t.val + 1) (VecWindow.put Y (k0_off4 (grid0.coords t)) S256x768.size
      (firstTile (tokens (grid0.coords t) (iblk0 V c 1 t)) (iblk0 V c 2 t) (iblk0 V c 3 t) (iblk0 V c 4 t) (iblk0 V c 5 t) (iblk0 V c 6 t)
        (routeTile (tokens (grid0.coords t) (iblk0 V c 1 t)) (iblk0 V c 0 t)) (BitVec.ofNat 32 (grid0.coords t 0).val))) := by
  intro k e h1 h2
  rw [window_put_tile Y _ (t.val % 8) (off4_at t)]
  have hk := k.isLt
  split_ifs with h
  · have he : e = 0 := by omega
    have hp : pt 0 k.val = t := by rw [← pt_self t, h, show t.val / 8 = 0 by omega]
    subst he
    unfold accTile route
    rw [hp]
  · exact hY k e (by omega) (by omega)

theorem first_table (c : Dev nD) (t : Fin cfg0.N) (ht : t.val < 8) (d : Vec F S2048x16 .f32) (hd : TableInv V c t.val d) :
    TableInv V c (t.val + 1) (VecWindow.put d (k0_off2 (grid0.coords t)) S256x16.size
        (routeTile (tokens (grid0.coords t) (iblk0 V c 1 t)) (iblk0 V c 0 t))) := by
  intro k h1
  rw [window_put_row d _ (t.val % 8) (off2_at t)]
  split_ifs with h
  · have hp : pt 0 k.val = t := by rw [← pt_self t, h, show t.val / 8 = 0 by omega]
    unfold route
    rw [hp]
  · exact hd k (by omega)

theorem later_acc (c : Dev nD) (t : Fin cfg0.N) (ht : ¬ t.val < 8) (hc : k0_cond3 (grid0.coords t) = 1#1) (Y : Vec F S2048x768 .f32) (hY : AccInv V c t.val Y)
    (d : Vec F S2048x16 .f32) (hd : TableInv V c t.val d) :
    AccInv V c (t.val + 1) (VecWindow.put Y (k0_off5 (grid0.coords t)) S256x768.size
      (laterTile (tokens (grid0.coords t) (iblk0 V c 1 t)) (iblk0 V c 2 t) (iblk0 V c 3 t) (iblk0 V c 4 t) (iblk0 V c 5 t) (iblk0 V c 6 t)
        (VecWindow.window d (k0_off3 (grid0.coords t)) S256x16.size (k0_off3_inb (grid0.coords t))) (BitVec.ofNat 32 (grid0.coords t 0).val)
        (VecWindow.window Y (k0_off5 (grid0.coords t)) S256x768.size (k0_off5_inb (grid0.coords t) hc)))) := by
  intro k e h1 h2
  rw [window_put_tile Y _ (t.val % 8) (off5_at t)]
  have hk := k.isLt
  split_ifs with h
  · obtain ⟨e', rfl⟩ : ∃ e', e = e' + 1 := ⟨e - 1, by omega⟩
    have hp : pt (e' + 1) k.val = t := by rw [← pt_self t, h, show t.val / 8 = e' + 1 by omega]
    have hw : (VecWindow.window d (k0_off3 (grid0.coords t)) S256x16.size (k0_off3_inb (grid0.coords t)) : Vec F S256x16 .f32) = route V c k.val := by
      refine Eq.trans ?_ (hd k (by omega))
      funext y
      exact window_off d S256x16.size (by rw [off3_at, h]) _ (rowsR k) y
    have hy : (VecWindow.window Y (k0_off5 (grid0.coords t)) S256x768.size (k0_off5_inb (grid0.coords t) hc) : Vec F S256x768 .f32) = accTile V c k.val e' := by
      refine Eq.trans ?_ (hY k e' (by omega) (by omega))
      funext y
      exact window_off Y S256x768.size (by rw [off5_at, h]) _ (rowsX k) y
    rw [hw, hy]
    unfold accTile
    rw [hp]
    cases e' <;> rfl
  · exact hY k e (by omega) (by omega)

theorem later_table (c : Dev nD) (t : Fin cfg0.N) (ht : ¬ t.val < 8) (d : Vec F S2048x16 .f32) (hd : TableInv V c t.val d) :
    TableInv V c (t.val + 1) d := fun k _ => hd k (by have := k.isLt; omega)

/-! ## The proof data -/

/-- The kernel's invariant after `n` points: the routing table as `TableInv` says, and what the region does not touch. -/
def phi0 (c : Dev nD) (n : ℕ) : sProp 𝕄 :=
  iprop(iprop((∃ d, ⌜TableInv V c n d⌝ ∗ owns (c : Thread nD τ) scM0_0 fullShare d) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg7_0), ((c : Thread nD τ).loc cc1_stg7_0) ↦{fullShare} f) ∗ (∃ f : Buf (Elt F) ((c : Thread nD τ).loc cc1_stg7_1), ((c : Thread nD τ).loc cc1_stg7_1) ↦{fullShare} f)) ∗ (∃ r, prngReg c r))

/-- The region's proof data, with nothing yet said of the result's staging buffer. -/
def base0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => out0 V c
  Φ t := phi0 V c t.val
  q _ := fullShare
  owed _ := 0

theorem A_eq0 (c : Dev nD) (w : Fin cfg0.W) : (base0 V c).A w = V c (Pipeline.arrRef spec0 w) := by
  dsimp only [base0]

theorem after0_0 (c : Dev nD) (t : Fin cfg0.N) : (base0 V c).after 0 t = iblk0 V c 0 t := by dsimp only [base0]
theorem after0_1 (c : Dev nD) (t : Fin cfg0.N) : (base0 V c).after 1 t = iblk0 V c 1 t := by dsimp only [base0]
theorem after0_2 (c : Dev nD) (t : Fin cfg0.N) : (base0 V c).after 2 t = iblk0 V c 2 t := by dsimp only [base0]
theorem after0_3 (c : Dev nD) (t : Fin cfg0.N) : (base0 V c).after 3 t = iblk0 V c 3 t := by dsimp only [base0]
theorem after0_4 (c : Dev nD) (t : Fin cfg0.N) : (base0 V c).after 4 t = iblk0 V c 4 t := by dsimp only [base0]
theorem after0_5 (c : Dev nD) (t : Fin cfg0.N) : (base0 V c).after 5 t = iblk0 V c 5 t := by dsimp only [base0]
theorem after0_6 (c : Dev nD) (t : Fin cfg0.N) : (base0 V c).after 6 t = iblk0 V c 6 t := by dsimp only [base0]

theorem before0_0 (c : Dev nD) (t : Fin cfg0.N) (d) : (base0 V c).before 0 t d = iblk0 V c 0 t :=
  before0_0_of V (base0 V c) (A_eq0 V c 0) (after0_0 V c) t d
theorem before0_1 (c : Dev nD) (t : Fin cfg0.N) (d) : (base0 V c).before 1 t d = iblk0 V c 1 t :=
  before0_1_of V (base0 V c) (A_eq0 V c 1) (after0_1 V c) t d
theorem before0_2 (c : Dev nD) (t : Fin cfg0.N) (d) : (base0 V c).before 2 t d = iblk0 V c 2 t :=
  before0_2_of V (base0 V c) (A_eq0 V c 2) (after0_2 V c) t d
theorem before0_3 (c : Dev nD) (t : Fin cfg0.N) (d) : (base0 V c).before 3 t d = iblk0 V c 3 t :=
  before0_3_of V (base0 V c) (A_eq0 V c 3) (after0_3 V c) t d
theorem before0_4 (c : Dev nD) (t : Fin cfg0.N) (d) : (base0 V c).before 4 t d = iblk0 V c 4 t :=
  before0_4_of V (base0 V c) (A_eq0 V c 4) (after0_4 V c) t d
theorem before0_5 (c : Dev nD) (t : Fin cfg0.N) (d) : (base0 V c).before 5 t d = iblk0 V c 5 t :=
  before0_5_of V (base0 V c) (A_eq0 V c 5) (after0_5 V c) t d
theorem before0_6 (c : Dev nD) (t : Fin cfg0.N) (d) : (base0 V c).before 6 t d = iblk0 V c 6 t :=
  before0_6_of V (base0 V c) (A_eq0 V c 6) (after0_6 V c) t d

/-- What a point does to the result's staging buffer: it keeps the tile-by-tile account. -/
def ovr0 (c : Dev nD) : (w : Fin cfg0.W) → Option (Fin cfg0.N → (Y X : (cfg0.win w).block.Idx → Elt F (cfg0.win w).elt) → Prop)
  | ⟨7, _⟩ => some fun t Y X => AccInv V c t.val Y → AccInv V c (t.val + 1) X
  | _ => none

/-- The region's proof data. -/
def rdat0 (c : Dev nD) : Pipeline.RDat τ (Elt F) Unit ℕ (UR sig nD τ) ℕ cfg0 c := (base0 V c).toR.override (ovr0 V c)

theorem after0_out (c : Dev nD) (t : Fin cfg0.N) (Y X : Vec F S2048x768 .f32) :
    (rdat0 V c).after 7 t Y X = (AccInv V c t.val Y → AccInv V c (t.val + 1) X) := rfl

theorem leaves0 (c : Dev nD) : ∀ (n : ℕ) (t : Fin cfg0.N), t.val = n → ∀ X : Vec F S2048x768 .f32,
    ((rdat0 V c).Finds 7 t X → AccInv V c t.val X) ∧ ((rdat0 V c).Leaves 7 t X → AccInv V c (t.val + 1) X) := by
  intro n
  induction n with
  | zero =>
    intro t ht X
    have h0 : ∀ X : Vec F S2048x768 .f32, AccInv V c t.val X := fun X k e h _ => by omega
    refine ⟨fun _ => h0 X, ?_⟩
    rintro ⟨Y, _, hR⟩
    rw [after0_out] at hR
    exact hR (h0 Y)
  | succ n ih =>
    intro t ht X
    have hf : ∀ X : Vec F S2048x768 .f32, (rdat0 V c).Finds 7 t X → AccInv V c t.val X := by
      intro X hX
      rcases ((rdat0 V c).finds_of_pos (w := 7) rfl (by omega) X).mp hX with h | h
      · exfalso
        have := (flush0_7 _).mp h
        have h2 : t.val < 120 := t.isLt
        have h3 : (t.val - 1) % 120 = 119 := this
        omega
      · have := (ih ⟨t.val - 1, Nat.lt_of_le_of_lt (Nat.sub_le _ _) t.isLt⟩ (by show t.val - 1 = n; omega) X).2 h
        have h1 : t.val - 1 + 1 = t.val := by omega
        have h4 : AccInv V c (t.val - 1 + 1) X := this
        rw [h1] at h4
        exact h4
    refine ⟨hf X, ?_⟩
    rintro ⟨Y, hY, hR⟩
    rw [after0_out] at hR
    exact hR (hf Y hY)

/-- The last point. -/
abbrev last0 : Fin cfg0.N := ⟨119, by decide⟩

/-- The array the region writes, when it is done. -/
def res0 (c : Dev nD) : Buf (Elt F) ((cfg0.win 7).arr.view.loc (c.tc : Thread nD τ)) :=
  ((cfg0.win 7).blk last0).view.write (Elt F) ((base0 V c).A 7) ((cfg0.win 7).cut (cfg0.grid.coords last0) (out0 V c)) Finset.univ

theorem arr0_before (c : Dev nD) : ∀ n ≤ 119, ∀ G, (rdat0 V c).ArrAt 7 n G → G = (base0 V c).A 7 := by
  intro n
  induction n with
  | zero => intro _ G h; exact h
  | succ n ih =>
    intro hn G h
    simp only [Pipeline.RDat.ArrAt] at h
    rw [dif_pos (show n < cfg0.N by show n < 120; omega), if_neg (by
      intro hfl
      have h3 : n % 120 = 119 := (flush0_7 _).mp hfl
      omega)] at h
    exact ih (by omega) G h

theorem arr0_last (c : Dev nD) (n : ℕ) (hn : n = 119) (G : Buf (Elt F) ((cfg0.win 7).arr.view.loc (c.tc : Thread nD τ)))
    (h : (rdat0 V c).ArrAt 7 (n + 1) G) : G = res0 V c := by
  simp only [Pipeline.RDat.ArrAt] at h
  rw [dif_pos (show n < cfg0.N by show n < 120; omega), if_pos ((flush0_7 ⟨n, by show n < 120; omega⟩).mpr (by show n % 120 = 119; omega))] at h
  obtain ⟨G₀, X, hG, hX, hGX⟩ := h
  have hX' : X = out0 V c := by
    have := (leaves0 V c n ⟨n, by show n < 120; omega⟩ rfl X).2 hX
    subst hn
    exact out0_of_inv V c X this
  rw [arr0_before V c n (by omega) G₀ hG, hX'] at hGX
  subst hn
  exact hGX

theorem arr0_res (c : Dev nD) (G : Buf (Elt F) ((cfg0.win 7).arr.view.loc (c.tc : Thread nD τ)))
    (h : (rdat0 V c).ArrAt 7 cfg0.N G) : G = res0 V c := arr0_last V c 119 rfl G h

/-! ## The body obligation -/

theorem finds_in (c : Dev nD) (t : Fin cfg0.N) (w : Fin cfg0.W) (hw : ovr0 V c w = none) (X) (h : (rdat0 V c).Finds w t X) :
    ∃ d, X = (base0 V c).before w t d :=
  (base0 V c).toR_finds w t X (((base0 V c).toR.override_finds hw t X).mp h)

theorem defs₀_row0 (t : Fin cfg0.N) :
    defs₀ (F := F) .tc cfg0.body (cfg0.bodyArgs t (cfg0.slots t)) = bodyAt0 t := by
  unfold defs₀; rw [Defs.onTc_tc]

set_option maxHeartbeats 800000 in
/-- The body at any point. -/
theorem sound_body0 (c : Dev nD) (t : Fin cfg0.N) (Y : Vec F S2048x768 .f32) (hY : AccInv V c t.val Y) :
    iprop(phi0 V c t.val ∗ (base0 V c).owesAt () t.castSucc ∗ owns (c : Thread nD τ) (ms0_0 t) fullShare (iblk0 V c 0 t) ∗ owns (c : Thread nD τ) (ms0_1 t) fullShare (iblk0 V c 1 t) ∗ owns (c : Thread nD τ) (ms0_2 t) fullShare (iblk0 V c 2 t) ∗ owns (c : Thread nD τ) (ms0_3 t) fullShare (iblk0 V c 3 t) ∗ owns (c : Thread nD τ) (ms0_4 t) fullShare (iblk0 V c 4 t) ∗ owns (c : Thread nD τ) (ms0_5 t) fullShare (iblk0 V c 5 t) ∗ owns (c : Thread nD τ) (ms0_6 t) fullShare (iblk0 V c 6 t) ∗ owns (c : Thread nD τ) (ms0_7 t) fullShare Y)
      ⊢ wp frame (wpE (defs₀ (F := F)) Variants.none c none) Set.univ (bodyAt0 t) (fun _ =>
        iprop(phi0 V c (t.val + 1) ∗ (base0 V c).owesAt () t.castSucc ∗ owns (c : Thread nD τ) (ms0_0 t) fullShare (iblk0 V c 0 t) ∗ owns (c : Thread nD τ) (ms0_1 t) fullShare (iblk0 V c 1 t) ∗ owns (c : Thread nD τ) (ms0_2 t) fullShare (iblk0 V c 2 t) ∗ owns (c : Thread nD τ) (ms0_3 t) fullShare (iblk0 V c 3 t) ∗ owns (c : Thread nD τ) (ms0_4 t) fullShare (iblk0 V c 4 t) ∗ owns (c : Thread nD τ) (ms0_5 t) fullShare (iblk0 V c 5 t) ∗ owns (c : Thread nD τ) (ms0_6 t) fullShare (iblk0 V c 6 t) ∗ (∃ X, ⌜AccInv V c (t.val + 1) X⌝ ∗ owns (c : Thread nD τ) (ms0_7 t) fullShare X))) := by
  unfold bodyAt0 phi0
  iintro ⟨⟨⟨⟨%ds, %hds, HS0⟩, HR1, HR2, HR3, HR4, HR5, HR6, HR7, HR8, HR9, HR10, HR11⟩, Hg⟩, Ho, H0, H1, H2, H3, H4, H5, H6, H7⟩
  by_cases ht : t.val < 8
  · iapply (body_first c (grid0.coords t) _ _ _ _ _ _ _ _ _ _ _ _ _ _ _ _ _ _ ((cond1_at t).mpr ht) ((cond2_at t).mpr ht) (fun h => (cond3_at t).mp h ht) (iblk0 V c 0 t) (iblk0 V c 1 t) (iblk0 V c 2 t) (iblk0 V c 3 t) (iblk0 V c 4 t) (iblk0 V c 5 t) (iblk0 V c 6 t) Y ds Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [HS0]; · iexact HS0
    iintro ⟨H0, H1, H2, H3, H4, H5, H6, H7, HS0⟩
    isplitl [HS0 HR1 HR2 HR3 HR4 HR5 HR6 HR7 HR8 HR9 HR10 HR11 Hg]
    · isplitl [HS0 HR1 HR2 HR3 HR4 HR5 HR6 HR7 HR8 HR9 HR10 HR11]
      · isplitl [HS0]
        · iexists _; isplitr
          swap; · iexact HS0
          ipureintro; exact first_table V c t ht ds hds
        isplitl [HR1]; · iexact HR1
        isplitl [HR2]; · iexact HR2
        isplitl [HR3]; · iexact HR3
        isplitl [HR4]; · iexact HR4
        isplitl [HR5]; · iexact HR5
        isplitl [HR6]; · iexact HR6
        isplitl [HR7]; · iexact HR7
        isplitl [HR8]; · iexact HR8
        isplitl [HR9]; · iexact HR9
        isplitl [HR10]; · iexact HR10
        iexact HR11
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexists _; isplitr
    swap; · iexact H7
    ipureintro; exact first_acc V c t ht Y hY
  · iapply (body_later c (grid0.coords t) _ _ _ _ _ _ _ _ _ _ _ _ _ _ _ _ _ _ (fun h => ht ((cond1_at t).mp h)) (fun h => ht ((cond2_at t).mp h)) ((cond3_at t).mpr ht) (iblk0 V c 0 t) (iblk0 V c 1 t) (iblk0 V c 2 t) (iblk0 V c 3 t) (iblk0 V c 4 t) (iblk0 V c 5 t) (iblk0 V c 6 t) Y ds Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [HS0]; · iexact HS0
    iintro ⟨H0, H1, H2, H3, H4, H5, H6, H7, HS0⟩
    isplitl [HS0 HR1 HR2 HR3 HR4 HR5 HR6 HR7 HR8 HR9 HR10 HR11 Hg]
    · isplitl [HS0 HR1 HR2 HR3 HR4 HR5 HR6 HR7 HR8 HR9 HR10 HR11]
      · isplitl [HS0]
        · iexists _; isplitr
          swap; · iexact HS0
          ipureintro; exact later_table V c t ht ds hds
        isplitl [HR1]; · iexact HR1
        isplitl [HR2]; · iexact HR2
        isplitl [HR3]; · iexact HR3
        isplitl [HR4]; · iexact HR4
        isplitl [HR5]; · iexact HR5
        isplitl [HR6]; · iexact HR6
        isplitl [HR7]; · iexact HR7
        isplitl [HR8]; · iexact HR8
        isplitl [HR9]; · iexact HR9
        isplitl [HR10]; · iexact HR10
        iexact HR11
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexists _; isplitr
    swap; · iexact H7
    ipureintro; exact later_acc V c t ht ((cond3_at t).mpr ht) Y hY ds hds

/-- A window that is only read leaves its block in place. -/
theorem after_in (c : Dev nD) (t : Fin cfg0.N) (w : Fin cfg0.W) (hw : ovr0 V c w = none) (hi : cfg0.idle w (cfg0.grid.coords t) = false)
    (hl : cfg0.loose w = false) (Y) : (rdat0 V c).after w t Y ((base0 V c).after w t) := by
  unfold rdat0
  rw [Pipeline.RDat.override_after_of_eq_none _ hw]
  show (base0 V c).Leaves w t _
  unfold Pipeline.Dat.Leaves
  rw [hi, hl]

/-- The body obligation at every point. -/
theorem body_obligation0 (c : Dev nD) : (rdat0 (F := F) V c).BodyObligation (defs₀ (F := F)) Variants.none () Set.univ := fun t Y hY => by
  rw [bigSep_W0, bigSep_W0, defs₀_row0]
  have h0 : Y 0 = iblk0 V c 0 t := by
    obtain ⟨d, hd⟩ := finds_in V c t 0 rfl (Y 0) (hY 0)
    rw [hd, before0_0]
  have h1 : Y 1 = iblk0 V c 1 t := by
    obtain ⟨d, hd⟩ := finds_in V c t 1 rfl (Y 1) (hY 1)
    rw [hd, before0_1]
  have h2 : Y 2 = iblk0 V c 2 t := by
    obtain ⟨d, hd⟩ := finds_in V c t 2 rfl (Y 2) (hY 2)
    rw [hd, before0_2]
  have h3 : Y 3 = iblk0 V c 3 t := by
    obtain ⟨d, hd⟩ := finds_in V c t 3 rfl (Y 3) (hY 3)
    rw [hd, before0_3]
  have h4 : Y 4 = iblk0 V c 4 t := by
    obtain ⟨d, hd⟩ := finds_in V c t 4 rfl (Y 4) (hY 4)
    rw [hd, before0_4]
  have h5 : Y 5 = iblk0 V c 5 t := by
    obtain ⟨d, hd⟩ := finds_in V c t 5 rfl (Y 5) (hY 5)
    rw [hd, before0_5]
  have h6 : Y 6 = iblk0 V c 6 t := by
    obtain ⟨d, hd⟩ := finds_in V c t 6 rfl (Y 6) (hY 6)
    rw [hd, before0_6]
  have h7 : AccInv V c t.val (Y 7) := (leaves0 V c t.val t rfl (Y 7)).1 (hY 7)
  refine triple_restated (sound_body0 V c t (Y 7) h7) rfl ?_ fun _ => ?_
  · rw [h0, h1, h2, h3, h4, h5, h6]
    exact .rfl
  · rw [show (rdat0 V c).Φ t.succ = phi0 V c (t.val + 1) from rfl]
    iintro ⟨HΦ, Ho, H0, H1, H2, H3, H4, H5, H6, ⟨%X, %hX, H7⟩⟩
    isplitl [HΦ]; · iexact HΦ
    isplitl [Ho]; · iexact Ho
    isplitl [H0]
    · iexists _; isplitr
      swap; · iexact H0
      ipureintro; rw [← after0_0 V c t]; exact after_in V c t 0 rfl rfl rfl _
    isplitl [H1]
    · iexists _; isplitr
      swap; · iexact H1
      ipureintro; rw [← after0_1 V c t]; exact after_in V c t 1 rfl rfl rfl _
    isplitl [H2]
    · iexists _; isplitr
      swap; · iexact H2
      ipureintro; rw [← after0_2 V c t]; exact after_in V c t 2 rfl rfl rfl _
    isplitl [H3]
    · iexists _; isplitr
      swap; · iexact H3
      ipureintro; rw [← after0_3 V c t]; exact after_in V c t 3 rfl rfl rfl _
    isplitl [H4]
    · iexists _; isplitr
      swap; · iexact H4
      ipureintro; rw [← after0_4 V c t]; exact after_in V c t 4 rfl rfl rfl _
    isplitl [H5]
    · iexists _; isplitr
      swap; · iexact H5
      ipureintro; rw [← after0_5 V c t]; exact after_in V c t 5 rfl rfl rfl _
    isplitl [H6]
    · iexists _; isplitr
      swap; · iexact H6
      ipureintro; rw [← after0_6 V c t]; exact after_in V c t 6 rfl rfl rfl _
    iexists X; isplitr
    · ipureintro; exact fun _ => hX
    iexact H7

end Cert.KernelIdeal.Hand

end
-- ==== Proof.Ideal.Region1.lean ====
/- The shared-expert call: 8 tiles of tokens.  (The idealized kernel.) -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp
public import proofs.«01_k».proof.Proof.Ideal.Body

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-! # The shared-expert region, at the contents `V` it is entered at -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds its block at every point. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's staging buffer holds its block at every point. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's staging buffer holds its block at every point. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's staging buffer holds its block at every point. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Input window 4's staging buffer holds its block at every point. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
/-- Input window 5's staging buffer holds its block at every point. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
/-- Input window 6's staging buffer holds its block at every point. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

abbrev r1_0 : Rect S256x768 := Rect.unit (s := S256x768) ![0, 0] S256x768.size inb_S256x768_S256x768_0_0
abbrev r1_1 : Rect S768x4096 := Rect.unit (s := S768x4096) ![0, 0] S768x4096.size inb_S768x4096_S768x4096_0_0
abbrev r1_2 : Rect S1x4096 := Rect.unit (s := S1x4096) ![0, 0] S1x4096.size inb_S1x4096_S1x4096_0_0
abbrev r1_3 : Rect S1x2048 := Rect.unit (s := S1x2048) ![0, 0] S1x2048.size inb_S1x2048_S1x2048_0_0
abbrev r1_4 : Rect S2048x768 := Rect.unit (s := S2048x768) ![0, 0] S2048x768.size inb_S2048x768_S2048x768_0_0
abbrev r1_5 : Rect S1x768 := Rect.unit (s := S1x768) ![0, 0] S1x768.size inb_S1x768_S1x768_0_0

/-! ## What the body leaves in each output window's buffer -/

/-- Window 7's staging buffer after the body, from the input windows' blocks: one store of the whole buffer. -/
def out1_7 (x0 : Vec F S256x768 .f32) (x1 : Vec F S256x768 .f32) (x2 : Vec F S768x4096 .f32) (x3 : Vec F S1x4096 .f32) (x4 : Vec F S1x2048 .f32) (x5 : Vec F S2048x768 .f32) (x6 : Vec F S1x768 .f32) : Vec F S256x768 .f32 :=
  View.canon [⟨r1_0, k1_pay1 (View.ld x0 r1_0) (View.ld x2 r1_1) (View.ld x3 r1_2) (View.ld x4 r1_3) (View.ld x5 r1_4) (View.ld x6 r1_5) (View.ld x1 r1_0)⟩]

/-- Its stores tile the buffer, so they cover it. -/
theorem cover1_7 (p0 : Vec F S256x768 .f32) (y : S256x768.Idx) :
    ∃ pc ∈ ([⟨r1_0, p0⟩] : List (View.Piece (Elt F) S256x768 .f32)), y ∈ pc.1.set :=
  View.cover_of_tiled [⟨r1_0, p0⟩] S256x768.size (by rfl) y

/-! ## The body's triple -/

set_option maxHeartbeats 1000000 in
/-- The kernel body on whole staging memrefs, the inputs' at read contents `xW` and the outputs' at anything, runs to
    the continuation holding the inputs' as they were and each output's at `out1_W` of the inputs'. -/
theorem sound_kernel1 (c : Dev nD) (E : Set ℕ) (i : grid1.Coords) (arg1 : Memref sig .tc .vmem S256x768 .f32) (harg1 : arg1.IsWhole) (arg2 : Memref sig .tc .vmem S256x768 .f32) (harg2 : arg2.IsWhole) (arg3 : Memref sig .tc .vmem S768x4096 .f32) (harg3 : arg3.IsWhole) (arg4 : Memref sig .tc .vmem S1x4096 .f32) (harg4 : arg4.IsWhole) (arg5 : Memref sig .tc .vmem S1x2048 .f32) (harg5 : arg5.IsWhole) (arg6 : Memref sig .tc .vmem S2048x768 .f32) (harg6 : arg6.IsWhole) (arg7 : Memref sig .tc .vmem S1x768 .f32) (harg7 : arg7.IsWhole) (arg8 : Memref sig .tc .vmem S256x768 .f32) (harg8 : arg8.IsWhole)
    (x0 : Vec F S256x768 .f32) (x1 : Vec F S256x768 .f32) (x2 : Vec F S768x4096 .f32) (x3 : Vec F S1x4096 .f32) (x4 : Vec F S1x2048 .f32) (x5 : Vec F S2048x768 .f32) (x6 : Vec F S1x768 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out1_7 x0 x1 x2 x3 x4 x5 x6)) -∗ K ⟨⟩))
      ⊢ wp frame (wpE (defs₀ (F := F)) Variants.none c none) E (cc1__shared_body i arg1 harg1 arg2 harg2 arg3 harg3 arg4 harg4 arg5 harg5 arg6 harg6 arg7 harg7 arg8 harg8) K := by
  simp only [cc1__shared_body_eq_skeleton]; unfold cc1__shared_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover1_7 _)

/-! ## The pipeline's proof data -/

/-- The proof data of pipeline 1 on core `c`: the arrays as the region finds them (`V`); after the body at
    point `t` each input's buffer at its block and each output's at `out1_W` of the input blocks; the invariant
    holds the scoped rest and the generator register, untouched; nothing owed;
    full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => out1_7 (iblk1 V c 0 t) (iblk1 V c 1 t) (iblk1 V c 2 t) (iblk1 V c 3 t) (iblk1 V c 4 t) (iblk1 V c 5 t) (iblk1 V c 6 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = out1_7 (iblk1 V c 0 t) (iblk1 V c 1 t) (iblk1 V c 2 t) (iblk1 V c 3 t) (iblk1 V c 4 t) (iblk1 V c 5 t) (iblk1 V c 6 t) := by dsimp only [dat1]

/-- Each input's current staging buffer holds its block at every point, fetched there or not (`beforeK_W_of`). -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t))

/-- The body at any point: the inputs' memrefs hold their blocks (`before1_W`), so `sound_kernel1` applies; the invariant and
    the core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel1 c Set.univ (grid1.coords t) _ _ _ _ _ _ _ _ _ _ _ _ _ _ _ _ (iblk1 V c 0 t) (iblk1 V c 1 t) (iblk1 V c 2 t) (iblk1 V c 3 t) (iblk1 V c 4 t) (iblk1 V c 5 t) (iblk1 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body table's row at point `t`'s slots is the body as `bodyAt1` spells it. -/
theorem defs₀_row1 (t : Fin cfg1.N) :
    defs₀ (F := F) .tc cfg1.body (cfg1.bodyArgs t (cfg1.slots t)) = bodyAt1 t := by
  unfold defs₀; rw [Defs.onTc_tc]

/-- The library's body obligation, at every point. -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Cert.KernelIdeal.Hand

end
-- ==== Proof.Ideal.Run.lean ====
/- The run of @main: the host operations and the two calls in order, and what every buffer holds at the end.  (The idealized kernel.) -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp
public import proofs.«01_k».proof.Proof.Ideal.Region0
public import proofs.«01_k».proof.Proof.Ideal.Region1

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! # The run of @main -/

section Exit

variable (V : (c : Dev nD) → (b : Ref sig .tc) → Buf (Elt F) ((c : Thread nD τ).loc b))

/-- The first region's arrays when it is done. -/
def arrs0 (c : Dev nD) (w : Fin cfg0.W) : Buf (Elt F) ((cfg0.win w).arr.view.loc (c.tc : Thread nD τ)) :=
  match w with
  | ⟨7, _⟩ => res0 V c
  | ⟨0, h⟩ => (base0 V c).A ⟨0, h⟩
  | ⟨1, h⟩ => (base0 V c).A ⟨1, h⟩
  | ⟨2, h⟩ => (base0 V c).A ⟨2, h⟩
  | ⟨3, h⟩ => (base0 V c).A ⟨3, h⟩
  | ⟨4, h⟩ => (base0 V c).A ⟨4, h⟩
  | ⟨5, h⟩ => (base0 V c).A ⟨5, h⟩
  | ⟨6, h⟩ => (base0 V c).A ⟨6, h⟩

theorem arrs0_in (c : Dev nD) (w : Fin cfg0.W) (h : (cfg0.win w).isOut = false) : arrs0 V c w = (base0 V c).A w := by
  match w, h with
  | ⟨0, _⟩, _ => rfl
  | ⟨1, _⟩, _ => rfl
  | ⟨2, _⟩, _ => rfl
  | ⟨3, _⟩, _ => rfl
  | ⟨4, _⟩, _ => rfl
  | ⟨5, _⟩, _ => rfl
  | ⟨6, _⟩, _ => rfl
  | ⟨7, _⟩, h => exact Bool.noConfusion (show true = false from h)

theorem arrs0_of_arrAt (c : Dev nD) (w : Fin cfg0.W) (G) (h : (rdat0 V c).ArrAt w cfg0.N G) : G = arrs0 V c w := by
  by_cases ho : (cfg0.win w).isOut = false
  · rw [(rdat0 V c).ArrAt_in w ho cfg0.N] at h
    rw [arrs0_in V c w ho]
    exact h
  · match w, ho, G, h with
    | ⟨7, _⟩, _, G, h => exact arr0_res V c G h
    | ⟨0, _⟩, ho, _, _ => exact absurd rfl ho
    | ⟨1, _⟩, ho, _, _ => exact absurd rfl ho
    | ⟨2, _⟩, ho, _, _ => exact absurd rfl ho
    | ⟨3, _⟩, ho, _, _ => exact absurd rfl ho
    | ⟨4, _⟩, ho, _, _ => exact absurd rfl ho
    | ⟨5, _⟩, ho, _, _ => exact absurd rfl ho
    | ⟨6, _⟩, ho, _, _ => exact absurd rfl ho

theorem exit0 (c : Dev nD) : (rdat0 V c).arraysAt cfg0.N ⊢ ((base0 V c).arrays (arrs0 V c) : sProp 𝕄) := by
  unfold Pipeline.RDat.arraysAt Pipeline.Dat.arrays
  refine Idealize.SL.BI.bigSep_mono fun w _ => ?_
  show BIBase.Entails (PROP := sProp 𝕄) _ _
  iintro ⟨%G, %hG, H⟩
  rw [← arrs0_of_arrAt V c w G hG]
  iexact H

theorem phi0_of_any (c : Dev nD) : (Pipeline.ΦA spec0 c : sProp 𝕄) ⊢ phi0 V c 0 := by
  rw [PhiA0_eq]
  unfold phi0
  iintro ⟨⟨⟨%d, HS0⟩, HR⟩, Hg⟩
  isplitl [HS0 HR]
  · isplitl [HS0]
    · iexists d; isplitr
      · ipureintro; exact fun k h => absurd h (Nat.not_lt_zero _)
      iexact HS0
    iexact HR
  iexact Hg

theorem any_of_phi0 (c : Dev nD) (n : ℕ) : phi0 V c n ⊢ (Pipeline.ΦA spec0 c : sProp 𝕄) := by
  rw [PhiA0_eq]
  unfold phi0
  iintro ⟨⟨⟨%d, -, HS0⟩, HR⟩, Hg⟩
  isplitl [HS0 HR]
  · isplitl [HS0]
    · iexists d; iexact HS0
    iexact HR
  iexact Hg

end Exit

/-- @main's argument arrays, as TensorCore references: what the frame claim reads back. -/
abbrev argRefs : List (Ref sig .tc) := [main_arg0, main_arg1, main_arg2, main_arg3, main_arg4, main_arg5, main_arg6, main_arg7, main_arg8, main_arg9, main_arg10, main_arg11]

/-! ## The host stretches: none allocates a buffer, and each lists the references its operations write, in order,
    so that a reference absent from the list keeps its contents across the stretch -/

/-- No operation of `hostOps0` allocates a buffer. -/
theorem hostOps0_fresh : (hostOps0 : List (HloOp τ sig (Elt F))).Forall fun op => op.fresh = ∅ := by
  simp only [List.Forall]; repeat' constructor
/-- The reference each operation of `hostOps0` writes, in order. -/
abbrev hostOps0_W : List (Ref sig .tc) := [main_v0, main_v1, main_c]
theorem hostOps0_writes : (hostOps0 : List (HloOp τ sig (Elt F))).Forall fun op => op.writes ⊆ (hostOps0_W.map (Proc.devRef (τ := τ) .tc)).toFinset :=
  StableHlo.forall_writes_sub_of_map rfl
/-- `hostOps0` writes none of the argument arrays (checked: each argument against each reference it writes). -/
theorem hostOps0_args : ∀ a ∈ argRefs, a ∉ hostOps0_W := ListAll.forall_mem_of_all_decide (by decide +kernel)

/-- No operation of `hostOps0_1` allocates a buffer. -/
theorem hostOps0_1_fresh : (hostOps0_1 : List (HloOp τ sig (Elt F))).Forall fun op => op.fresh = ∅ := by
  simp only [List.Forall]; repeat' constructor
/-- The reference each operation of `hostOps0_1` writes, in order. -/
abbrev hostOps0_1_W : List (Ref sig .tc) := [main_call0_v0, main_v2]
theorem hostOps0_1_writes : (hostOps0_1 : List (HloOp τ sig (Elt F))).Forall fun op => op.writes ⊆ (hostOps0_1_W.map (Proc.devRef (τ := τ) .tc)).toFinset :=
  StableHlo.forall_writes_sub_of_map rfl
/-- `hostOps0_1` writes none of the argument arrays (checked: each argument against each reference it writes). -/
theorem hostOps0_1_args : ∀ a ∈ argRefs, a ∉ hostOps0_1_W := ListAll.forall_mem_of_all_decide (by decide +kernel)

/-- No operation of `hostOps0_2` allocates a buffer. -/
theorem hostOps0_2_fresh : (hostOps0_2 : List (HloOp τ sig (Elt F))).Forall fun op => op.fresh = ∅ := by
  simp only [List.Forall]; repeat' constructor
/-- The reference each operation of `hostOps0_2` writes, in order. -/
abbrev hostOps0_2_W : List (Ref sig .tc) := [main_v3, main_v4, main_v5]
theorem hostOps0_2_writes : (hostOps0_2 : List (HloOp τ sig (Elt F))).Forall fun op => op.writes ⊆ (hostOps0_2_W.map (Proc.devRef (τ := τ) .tc)).toFinset :=
  StableHlo.forall_writes_sub_of_map rfl
/-- `hostOps0_2` writes none of the argument arrays (checked: each argument against each reference it writes). -/
theorem hostOps0_2_args : ∀ a ∈ argRefs, a ∉ hostOps0_2_W := ListAll.forall_mem_of_all_decide (by decide +kernel)

/-- No operation of `hostOps1` allocates a buffer. -/
theorem hostOps1_fresh : (hostOps1 : List (HloOp τ sig (Elt F))).Forall fun op => op.fresh = ∅ := by
  simp only [List.Forall]; repeat' constructor
/-- The reference each operation of `hostOps1` writes, in order. -/
abbrev hostOps1_W : List (Ref sig .tc) := [main_v7, main_v8, main_v9]
theorem hostOps1_writes : (hostOps1 : List (HloOp τ sig (Elt F))).Forall fun op => op.writes ⊆ (hostOps1_W.map (Proc.devRef (τ := τ) .tc)).toFinset :=
  StableHlo.forall_writes_sub_of_map rfl
/-- `hostOps1` writes none of the argument arrays (checked: each argument against each reference it writes). -/
theorem hostOps1_args : ∀ a ∈ argRefs, a ∉ hostOps1_W := ListAll.forall_mem_of_all_decide (by decide +kernel)

/-- No operation of `hostOps2` allocates a buffer. -/
theorem hostOps2_fresh : (hostOps2 : List (HloOp τ sig (Elt F))).Forall fun op => op.fresh = ∅ := by
  simp only [List.Forall]; repeat' constructor
/-- The reference each operation of `hostOps2` writes, in order. -/
abbrev hostOps2_W : List (Ref sig .tc) := [main_v11]
theorem hostOps2_writes : (hostOps2 : List (HloOp τ sig (Elt F))).Forall fun op => op.writes ⊆ (hostOps2_W.map (Proc.devRef (τ := τ) .tc)).toFinset :=
  StableHlo.forall_writes_sub_of_map rfl
/-- `hostOps2` writes none of the argument arrays (checked: each argument against each reference it writes). -/
theorem hostOps2_args : ∀ a ∈ argRefs, a ∉ hostOps2_W := ListAll.forall_mem_of_all_decide (by decide +kernel)

/-! ## The buffer contents at each segment boundary: a fold through @main, and what each item leaves unchanged -/

/-- Core `c`'s buffers at launch. -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- After `hostOps0`. -/
abbrev W1 : Dev nD → Valuation τ sig (Elt F) := fun c => StableHlo.after hostOps0 (W0 m ρ c)
/-- A reference `hostOps0` does not write keeps its contents across it. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- After `hostOps0_1`. -/
abbrev W2 : Dev nD → Valuation τ sig (Elt F) := fun c => StableHlo.after hostOps0_1 (W1 m ρ c)
/-- A reference `hostOps0_1` does not write keeps its contents across it. -/
theorem W2_of (c : Dev nD) (r : Ref sig .tc) (h : r ∉ hostOps0_1_W) : W2 m ρ c (Proc.devRef .tc r) = W1 m ρ c (Proc.devRef .tc r) :=
  StableHlo.after_of_writes_sub hostOps0_1 _ hostOps0_1_writes h
theorem W2_args (c : Dev nD) : ∀ a ∈ argRefs, W2 m ρ c (Proc.devRef .tc a) = m ((c : Thread nD τ).loc a) :=
  fun a ha => (W2_of m ρ c a (hostOps0_1_args a ha)).trans (W1_args m ρ c a ha)
/-- After `hostOps0_2` (region 0's entry). -/
abbrev W3 : Dev nD → Valuation τ sig (Elt F) := fun c => StableHlo.after hostOps0_2 (W2 m ρ c)
/-- A reference `hostOps0_2` does not write keeps its contents across it. -/
theorem W3_of (c : Dev nD) (r : Ref sig .tc) (h : r ∉ hostOps0_2_W) : W3 m ρ c (Proc.devRef .tc r) = W2 m ρ c (Proc.devRef .tc r) :=
  StableHlo.after_of_writes_sub hostOps0_2 _ hostOps0_2_writes h
theorem W3_args (c : Dev nD) : ∀ a ∈ argRefs, W3 m ρ c (Proc.devRef .tc a) = m ((c : Thread nD τ).loc a) :=
  fun a ha => (W3_of m ρ c a (hostOps0_2_args a ha)).trans (W2_args m ρ c a ha)
/-- The same read at the TensorCore's references (what region 0's proof data take). -/
abbrev V3 : (c : Dev nD) → (b : Ref sig .tc) → Buf (Elt F) ((c : Thread nD τ).loc b) := fun c b => W3 m ρ c b
/-- At region 0's exit: its arrays at what the pipeline leaves (the inputs as entered, each output's write-backs
    folded: `Dat.arrAt … N`), every other buffer as entered. -/
def W4 (c : Dev nD) : Valuation τ sig (Elt F) :=
  Pipeline.withArrays spec0 c (W3 m ρ c) fun w => arrs0 (V3 m ρ) c w
theorem W4_arr (c : Dev nD) (w : Fin cfg0.W) :
    W4 m ρ c (Proc.devRef .tc (Pipeline.arrRef spec0 w)) = arrs0 (V3 m ρ) c w := by
  unfold W4; exact Pipeline.withArrays_arr spec0 launch0.win.arr_inj c _ _ w
theorem W4_of_ne (c : Dev nD) (b : Ref sig .tc) (hb : ∀ w, Pipeline.arrRef spec0 w ≠ b) :
    W4 m ρ c (Proc.devRef .tc b) = W3 m ρ c (Proc.devRef .tc b) := by
  unfold W4; exact Pipeline.withArrays_of_ne spec0 c _ _ b hb
/-- A reference that is none of region 0's OUTPUT arrays keeps its entry contents across it: an input window's
    array is never written back (`Dat.arrAt_in`, `A_eq0`); any other buffer is left as is. -/
theorem W4_of (c : Dev nD) (r : Ref sig .tc) (h : ∀ w : Fin cfg0.W, Pipeline.arrRef spec0 w = r → (cfg0.win w).isOut = false) :
    W4 m ρ c (Proc.devRef .tc r) = W3 m ρ c (Proc.devRef .tc r) := by
  by_cases hw : ∃ w : Fin cfg0.W, Pipeline.arrRef spec0 w = r
  · obtain ⟨w, rfl⟩ := hw
    exact (W4_arr m ρ c w).trans ((arrs0_in (V3 m ρ) c w (h w rfl)).trans (A_eq0 (V3 m ρ) c w))
  · exact W4_of_ne m ρ c r fun w e => hw ⟨w, e⟩
/-- Every argument among region 0's arrays is an input window's (checked: each argument against each window). -/
theorem argsIn0 : ∀ a ∈ argRefs, ∀ w : Fin cfg0.W, Pipeline.arrRef spec0 w = a → (cfg0.win w).isOut = false :=
  ListAll.forall_mem_of_all_decide (by decide +kernel)
theorem W4_args (c : Dev nD) : ∀ a ∈ argRefs, W4 m ρ c (Proc.devRef .tc a) = m ((c : Thread nD τ).loc a) :=
  fun a ha => (W4_of m ρ c a (argsIn0 a ha)).trans (W3_args m ρ c a ha)
/-- The same read at the TensorCore's references (region 0's exit contents). -/
abbrev V4 : (c : Dev nD) → (b : Ref sig .tc) → Buf (Elt F) ((c : Thread nD τ).loc b) := fun c b => W4 m ρ c b
/-- At region 0's exit each of its arrays holds what the pipeline leaves (`hF0`) and every other buffer what it
    held at entry (`hrest0`). -/
theorem hF0 (c : Dev nD) (w : Fin cfg0.W) : arrs0 (V3 m ρ) c w = V4 m ρ c (Pipeline.arrRef spec0 w) :=
  (W4_arr m ρ c w).symm
theorem hrest0 (c : Dev nD) : ∀ b, b ∉ Finset.univ.image (Pipeline.arrRef spec0) → V4 m ρ c b = V3 m ρ c b :=
  fun b hb => W4_of_ne m ρ c b fun w e => hb (Finset.mem_image.mpr ⟨w, Finset.mem_univ _, e⟩)

/-- After `hostOps1` (region 1's entry). -/
abbrev W5 : Dev nD → Valuation τ sig (Elt F) := fun c => StableHlo.after hostOps1 (W4 m ρ c)
/-- A reference `hostOps1` does not write keeps its contents across it. -/
theorem W5_of (c : Dev nD) (r : Ref sig .tc) (h : r ∉ hostOps1_W) : W5 m ρ c (Proc.devRef .tc r) = W4 m ρ c (Proc.devRef .tc r) :=
  StableHlo.after_of_writes_sub hostOps1 _ hostOps1_writes h
theorem W5_args (c : Dev nD) : ∀ a ∈ argRefs, W5 m ρ c (Proc.devRef .tc a) = m ((c : Thread nD τ).loc a) :=
  fun a ha => (W5_of m ρ c a (hostOps1_args a ha)).trans (W4_args m ρ c a ha)
/-- The same read at the TensorCore's references (what region 1's proof data take). -/
abbrev V5 : (c : Dev nD) → (b : Ref sig .tc) → Buf (Elt F) ((c : Thread nD τ).loc b) := fun c b => W5 m ρ c b
/-- At region 1's exit: its arrays at what the pipeline leaves (the inputs as entered, each output's write-backs
    folded: `Dat.arrAt … N`), every other buffer as entered. -/
def W6 (c : Dev nD) : Valuation τ sig (Elt F) :=
  Pipeline.withArrays spec1 c (W5 m ρ c) fun w => (dat1 (V5 m ρ) c).arrAt w cfg1.N
theorem W6_arr (c : Dev nD) (w : Fin cfg1.W) :
    W6 m ρ c (Proc.devRef .tc (Pipeline.arrRef spec1 w)) = (dat1 (V5 m ρ) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m ρ c (Proc.devRef .tc b) = W5 m ρ c (Proc.devRef .tc b) := by
  unfold W6; exact Pipeline.withArrays_of_ne spec1 c _ _ b hb
/-- A reference that is none of region 1's OUTPUT arrays keeps its entry contents across it: an input window's
    array is never written back (`Dat.arrAt_in`, `A_eq1`); any other buffer is left as is. -/
theorem W6_of (c : Dev nD) (r : Ref sig .tc) (h : ∀ w : Fin cfg1.W, Pipeline.arrRef spec1 w = r → (cfg1.win w).isOut = false) :
    W6 m ρ c (Proc.devRef .tc r) = W5 m ρ c (Proc.devRef .tc r) := by
  by_cases hw : ∃ w : Fin cfg1.W, Pipeline.arrRef spec1 w = r
  · obtain ⟨w, rfl⟩ := hw
    exact (W6_arr m ρ c w).trans (((dat1 (V5 m ρ) c).arrAt_in w (h w rfl) _).trans (A_eq1 (V5 m ρ) c w))
  · exact W6_of_ne m ρ c r fun w e => hw ⟨w, e⟩
/-- Every argument among region 1's arrays is an input window's (checked: each argument against each window). -/
theorem argsIn1 : ∀ a ∈ argRefs, ∀ w : Fin cfg1.W, Pipeline.arrRef spec1 w = a → (cfg1.win w).isOut = false :=
  ListAll.forall_mem_of_all_decide (by decide +kernel)
theorem W6_args (c : Dev nD) : ∀ a ∈ argRefs, W6 m ρ c (Proc.devRef .tc a) = m ((c : Thread nD τ).loc a) :=
  fun a ha => (W6_of m ρ c a (argsIn1 a ha)).trans (W5_args m ρ c a ha)
/-- The same read at the TensorCore's references (region 1's exit contents). -/
abbrev V6 : (c : Dev nD) → (b : Ref sig .tc) → Buf (Elt F) ((c : Thread nD τ).loc b) := fun c b => W6 m ρ c b
/-- At region 1's exit each of its arrays holds what the pipeline leaves (`hF1`) and every other buffer what it
    held at entry (`hrest1`). -/
theorem hF1 (c : Dev nD) (w : Fin cfg1.W) : (dat1 (V5 m ρ) c).arrAt w cfg1.N = V6 m ρ c (Pipeline.arrRef spec1 w) :=
  (W6_arr m ρ c w).symm
theorem hrest1 (c : Dev nD) : ∀ b, b ∉ Finset.univ.image (Pipeline.arrRef spec1) → V6 m ρ c b = V5 m ρ c b :=
  fun b hb => W6_of_ne m ρ c b fun w e => hb (Finset.mem_image.mpr ⟨w, Finset.mem_univ _, e⟩)

/-- After `hostOps2`. -/
abbrev W7 : Dev nD → Valuation τ sig (Elt F) := fun c => StableHlo.after hostOps2 (W6 m ρ c)
/-- A reference `hostOps2` does not write keeps its contents across it. -/
theorem W7_of (c : Dev nD) (r : Ref sig .tc) (h : r ∉ hostOps2_W) : W7 m ρ c (Proc.devRef .tc r) = W6 m ρ c (Proc.devRef .tc r) :=
  StableHlo.after_of_writes_sub hostOps2 _ hostOps2_writes h
theorem W7_args (c : Dev nD) : ∀ a ∈ argRefs, W7 m ρ c (Proc.devRef .tc a) = m ((c : Thread nD τ).loc a) :=
  fun a ha => (W7_of m ρ c a (hostOps2_args a ha)).trans (W6_args m ρ c a ha)

/-! ### The arguments end as launched: no host stretch writes one and no region may change one (a region reads it
    through an input window or bypasses it) -/

theorem W7_main_arg0 (c : Dev nD) : W7 m ρ c (Proc.devRef .tc main_arg0) = m ((c : Thread nD τ).loc main_arg0) :=
  W7_args m ρ c main_arg0 (by decide)
theorem W7_main_arg1 (c : Dev nD) : W7 m ρ c (Proc.devRef .tc main_arg1) = m ((c : Thread nD τ).loc main_arg1) :=
  W7_args m ρ c main_arg1 (by decide)
theorem W7_main_arg2 (c : Dev nD) : W7 m ρ c (Proc.devRef .tc main_arg2) = m ((c : Thread nD τ).loc main_arg2) :=
  W7_args m ρ c main_arg2 (by decide)
theorem W7_main_arg3 (c : Dev nD) : W7 m ρ c (Proc.devRef .tc main_arg3) = m ((c : Thread nD τ).loc main_arg3) :=
  W7_args m ρ c main_arg3 (by decide)
theorem W7_main_arg4 (c : Dev nD) : W7 m ρ c (Proc.devRef .tc main_arg4) = m ((c : Thread nD τ).loc main_arg4) :=
  W7_args m ρ c main_arg4 (by decide)
theorem W7_main_arg5 (c : Dev nD) : W7 m ρ c (Proc.devRef .tc main_arg5) = m ((c : Thread nD τ).loc main_arg5) :=
  W7_args m ρ c main_arg5 (by decide)
theorem W7_main_arg6 (c : Dev nD) : W7 m ρ c (Proc.devRef .tc main_arg6) = m ((c : Thread nD τ).loc main_arg6) :=
  W7_args m ρ c main_arg6 (by decide)
theorem W7_main_arg7 (c : Dev nD) : W7 m ρ c (Proc.devRef .tc main_arg7) = m ((c : Thread nD τ).loc main_arg7) :=
  W7_args m ρ c main_arg7 (by decide)
theorem W7_main_arg8 (c : Dev nD) : W7 m ρ c (Proc.devRef .tc main_arg8) = m ((c : Thread nD τ).loc main_arg8) :=
  W7_args m ρ c main_arg8 (by decide)
theorem W7_main_arg9 (c : Dev nD) : W7 m ρ c (Proc.devRef .tc main_arg9) = m ((c : Thread nD τ).loc main_arg9) :=
  W7_args m ρ c main_arg9 (by decide)
theorem W7_main_arg10 (c : Dev nD) : W7 m ρ c (Proc.devRef .tc main_arg10) = m ((c : Thread nD τ).loc main_arg10) :=
  W7_args m ρ c main_arg10 (by decide)
theorem W7_main_arg11 (c : Dev nD) : W7 m ρ c (Proc.devRef .tc main_arg11) = m ((c : Thread nD τ).loc main_arg11) :=
  W7_args m ρ c main_arg11 (by decide)

/-! ## The proof data family and the thread state -/

/-- The prefetched tables' admissible contents: no pipeline has a table. -/
abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => base0 (V3 m ρ) c
  | ⟨1, _⟩ => fun c => dat1 (V5 m ρ) c
/-- The same read relationally: the first region's result is followed tile by tile. -/
def rdats : (p : Fin 2) → (c : Dev nD) → Pipeline.RDat τ (Elt F) Unit ℕ (UR sig nD τ) ℕ (Pipeline.pin (pcfgs (F := F)) adm p) c
  | ⟨0, _⟩ => fun c => rdat0 (V3 m ρ) c
  | ⟨1, _⟩ => fun c => (dat1 (V5 m ρ) c).toR
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (the class-A
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the run ends at it beside the core owing nothing): every unscoped
    buffer at the last boundary's contents `W7`, the generator register at some state. -/
abbrev Tₙ (c : Dev nD) : sProp 𝕄 := iprop(StableHlo.held (c : Thread nD τ) (Pipeline.ucRefs τ sig) (W7 m ρ c) ∗ ∃ r, prngReg c r)

/-! ## The regions as segments -/

set_option backward.isDefEq.respectTransparency.types false in
/-- REGION 0 (custom_call 0) over the thread state: entered from every unscoped buffer at `W3`, left at `W4`
    (what the next segment is entered from). Its arrays split out of the unscoped buffers
    (`arrays_of_unscopedBufs`) and put back at the exit contents (`unscopedBufs_of_arrays`); the generator register into the
    class invariant `ΦA` and out; nothing owed; no semaphore of the kernel's own. -/
def reg0 : Pipeline.RDat.RegionSeg (pcfgs (F := F)) adm (rdats m ρ) () defs₀ 𝒱₀ L lv 0 where
  win := launch0.win.to₀
  block_pos := launch0.block_pos
  stage_whole := launch0.stage_whole
  K := PEmpty
  osem k := k.elim
  ho := Pipeline.OwnSemFacts.none _
  hbody c := body_obligation0 (V3 m ρ) c
  hwaits := Pipeline.RDat.hwaits_of_owed_zero _ _ _ _ L lv 0 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec0 c (V3 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V3 m ρ c) (A_eq0 (V3 m ρ) c)
    rw [Pipeline.unscopedBufs_held] at hsplit
    have hst : ((pdats m ρ 0 c).arrays ((pdats m ρ 0 c).arrAt · 0) : sProp 𝕄) ⊢ (rdats m ρ 0 c).arrays (rdats m ρ 0 c).A := BIBase.Entails.rfl
    iintro ⟨⟨Hub, Hp, HO⟩, -, -⟩
    ihave H := hsplit $$ Hub
    icases H with ⟨Ha, Hrest⟩
    imodintro
    isplitl [Ha]
    · iapply hst; iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (phi0_of_any (V3 m ρ) c)
    unfold Pipeline.ΦA
    iintro ⟨Hp, -, Hr⟩
    isplitl [Hr]; · iexact Hr
    iexact Hp
  hout c := by
    rw [Pipeline.ownSems0_none]
    refine BIBase.Entails.trans (any_of_phi0 (V3 m ρ) c 120) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V3 m ρ c) (V4 m ρ c) (arrs0 (V3 m ρ) c) (hF0 m ρ c) (hrest0 m ρ c)
    rw [Pipeline.unscopedBufs_held] at hjoin
    have hex : (rdats m ρ 0 c).arraysAt (Pipeline.pin (pcfgs (F := F)) adm 0).N ⊢ ((pdats m ρ 0 c).arrays (arrs0 (V3 m ρ) c) : sProp 𝕄) := exit0 (V3 m ρ) c
    iintro ⟨Ha, HO, HY, Hrest⟩
    ihave Ha := hex $$ Ha
    imodintro
    isplitl [Ha Hrest]
    · iapply hjoin; isplitl [Ha] <;> iassumption
    isplitl [HY]; · iexact HY
    unfold Pipeline.RDat.owesAt Pipeline.owesWithin
    icases HO with ⟨%W, -, HO⟩; iexists W; iexact HO

set_option backward.isDefEq.respectTransparency.types false in
/-- REGION 1 (custom_call 1) over the thread state: entered from every unscoped buffer at `W5`, left at `W6`
    (what the next segment is entered from). Its arrays split out of the unscoped buffers
    (`arrays_of_unscopedBufs`) and put back at the exit contents (`unscopedBufs_of_arrays`); the generator register into the
    class invariant `ΦA` and out; nothing owed; no semaphore of the kernel's own. -/
def reg1 : Pipeline.RDat.RegionSeg (pcfgs (F := F)) adm (rdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V5 m ρ) c).toR
  hwaits := Pipeline.RDat.hwaits_of_owed_zero _ _ _ _ L lv 1 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec1 c (V5 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V5 m ρ c) (A_eq1 (V5 m ρ) c)
    rw [Pipeline.unscopedBufs_held] at hsplit
    have hst : ((pdats m ρ 1 c).arrays ((pdats m ρ 1 c).arrAt · 0) : sProp 𝕄) ⊢ (rdats m ρ 1 c).arrays (rdats m ρ 1 c).A := BIBase.Entails.rfl
    iintro ⟨⟨Hub, Hp, HO⟩, -, -⟩
    ihave H := hsplit $$ Hub
    icases H with ⟨Ha, Hrest⟩
    imodintro
    isplitl [Ha]
    · iapply hst; iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    rw [show (rdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (rdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V5 m ρ c) (V6 m ρ c) ((pdats m ρ 1 c).arrAt · cfg1.N) (hF1 m ρ c) (hrest1 m ρ c)
    rw [Pipeline.unscopedBufs_held] at hjoin
    have hex : (rdats m ρ 1 c).arraysAt (Pipeline.pin (pcfgs (F := F)) adm 1).N ⊢ ((pdats m ρ 1 c).arrays ((pdats m ρ 1 c).arrAt · cfg1.N) : sProp 𝕄) :=
      Entails.of_eq ((dat1 (V5 m ρ) c).toR_arraysAt_eq cfg1.N)
    iintro ⟨Ha, HO, HY, Hrest⟩
    ihave Ha := hex $$ Ha
    imodintro
    isplitl [Ha Hrest]
    · iapply hjoin; isplitl [Ha] <;> iassumption
    isplitl [HY]; · iexact HY
    unfold Pipeline.RDat.owesAt Pipeline.owesWithin
    icases HO with ⟨%W, -, HO⟩; iexists W; iexact HO

/-! ## @main as segments, and the launch -/

/-- @main's 7 segments in order: a host segment per stretch from its boundary's contents, a region per pallas_call. -/
abbrev segs : List (Pipeline.RDat.Seg (pcfgs (F := F)) adm (rdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .region (reg0 m ρ),
    .host (hseg hostOps1 hostOps1_sub hostOps1_fresh (W4 m ρ)),
    .region (reg1 m ρ),
    .host (hseg hostOps2 hostOps2_sub hostOps2_fresh (W6 m ρ)) ]
/-- @main IS the run of the segments: `main_chain`, then the segments run one after another. -/
theorem main_run (c : Dev nD) : main (F := F) c = Pipeline.RDat.Seg.run (segs m ρ) := (main_chain c).trans (by chain_rfl)

/-- The TensorCore has no unscoped semaphore. -/
theorem no_unscoped : ∀ sm : SemLoc sig, sm.isScoped .tc = true := by decide

set_option backward.isDefEq.respectTransparency.types false in
/-- From any memory with zero counters every execution of @main terminates without a fault; every final state has the argument arrays as
    launched, the result at the last boundary's contents, and every semaphore counter at zero. -/
theorem run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_v11) = W7 m ρ c (Proc.devRef .tc main_v11))
      ∧ r.2.sem = fun _ => 0) :=
  Pipeline.RDat.θ_run_regions_kit_sems (pcfgs (F := F)) adm (rdats m ρ) () cellOf_inj emb₁ defs₀ 𝒱₀ L lv m ρ main (segs m ρ)
    (fun c Q => by rw [main_run m ρ c])
    (by simp only [segs, Pipeline.RDat.Seg.pipes_host, Pipeline.RDat.Seg.pipes_region, Pipeline.RDat.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.RDat.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h hz => ⟨(fun c =>
      ⟨(h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c),
       (h c _ (mem_uc main_arg6 (by decide))).trans (W7_main_arg6 m ρ c),
       (h c _ (mem_uc main_arg7 (by decide))).trans (W7_main_arg7 m ρ c),
       (h c _ (mem_uc main_arg8 (by decide))).trans (W7_main_arg8 m ρ c),
       (h c _ (mem_uc main_arg9 (by decide))).trans (W7_main_arg9 m ρ c),
       (h c _ (mem_uc main_arg10 (by decide))).trans (W7_main_arg10 m ρ c),
       (h c _ (mem_uc main_arg11 (by decide))).trans (W7_main_arg11 m ρ c),
       h c _ (mem_uc main_v11 (by decide))⟩), funext fun g => hz g (.inr (no_unscoped g.2))⟩)

end Cert.KernelIdeal.Hand

end
-- ==== Proof.Math.Entry.lean ====
/- What the host operations around the two launches leave, read at an index: reshapes of the arguments, and the router's weights transposed and
   padded to sixteen lanes. -/
module

public import proofs.«01_k».proof.Proof.Ideal.Run
public import Idealize.ShloMosaic.Lib.StableHlo.ReadAt
public import Idealize.ShloMosaic.Lib.Pointwise

@[expose] public section

set_option maxRecDepth 16384

noncomputable section

namespace Cert.KernelIdeal.Hand

open Cert.KernelIdeal.Gen
open Idealize.ShloMosaic Idealize.ShloMosaic.TcCoe Idealize.SL.Sem

variable (m : (ℓ : Loc nD τ sig) → Buf (Elt Ideal) ℓ) (ρ : Dev nD → PrngReg) (c : Dev nD)

/-- The arguments, as arrays. -/
abbrev a0 : Vec Ideal S2048x1x768 .f32 := m ((c : Thread nD τ).loc main_arg0)
abbrev a1 : Vec Ideal S15x768 .f32 := m ((c : Thread nD τ).loc main_arg1)
abbrev a2 : Vec Ideal S15x768x2048 .f32 := m ((c : Thread nD τ).loc main_arg2)
abbrev a3 : Vec Ideal S15x2048 .f32 := m ((c : Thread nD τ).loc main_arg3)
abbrev a4 : Vec Ideal S15x1024 .f32 := m ((c : Thread nD τ).loc main_arg4)
abbrev a5 : Vec Ideal S15x1024x768 .f32 := m ((c : Thread nD τ).loc main_arg5)
abbrev a6 : Vec Ideal S15x768 .f32 := m ((c : Thread nD τ).loc main_arg6)
abbrev a7 : Vec Ideal S768x4096 .f32 := m ((c : Thread nD τ).loc main_arg7)
abbrev a8 : Vec Ideal S4096 .f32 := m ((c : Thread nD τ).loc main_arg8)
abbrev a9 : Vec Ideal S2048 .f32 := m ((c : Thread nD τ).loc main_arg9)
abbrev a10 : Vec Ideal S2048x768 .f32 := m ((c : Thread nD τ).loc main_arg10)
abbrev a11 : Vec Ideal S768 .f32 := m ((c : Thread nD τ).loc main_arg11)

/-! ## Before the first launch -/

theorem W1_v0 (t : Fin 2048) (d : Fin 768) :
    (W1 m ρ c (Proc.devRef .tc main_v0) : Vec Ideal S2048x768 .f32) (ix2 t d) = a0 m c (ix3 t 0 d) := by
  dsimp only [W1]
  after_reads_at

theorem W2_v2 (d : Fin 768) (k : Fin 15) :
    (W2 m ρ c (Proc.devRef .tc main_v2) : Vec Ideal S768x16 .f32) (ix2 d k.castSucc) = a1 m c (ix2 k d) := by
  dsimp only [W2, W1]
  after_reads_at
  exact dif_pos (show k.castSucc.val < 15 from k.isLt)

theorem W3_v0 (t : Fin 2048) (d : Fin 768) :
    (W3 m ρ c (Proc.devRef .tc main_v0) : Vec Ideal S2048x768 .f32) (ix2 t d) = a0 m c (ix3 t 0 d) := by
  rw [W3_of m ρ c main_v0 (by decide), W2_of m ρ c main_v0 (by decide)]
  exact W1_v0 m ρ c t d

theorem W3_v2 (d : Fin 768) (k : Fin 15) :
    (W3 m ρ c (Proc.devRef .tc main_v2) : Vec Ideal S768x16 .f32) (ix2 d k.castSucc) = a1 m c (ix2 k d) := by
  rw [W3_of m ρ c main_v2 (by decide)]
  exact W2_v2 m ρ c d k

theorem W3_v3 (e : Fin 15) (f : Fin 2048) :
    (W3 m ρ c (Proc.devRef .tc main_v3) : Vec Ideal S15x1x2048 .f32) (ix3 e 0 f) = a3 m c (ix2 e f) := by
  dsimp only [W3]
  after_reads_at

theorem W3_v4 (e : Fin 15) (f : Fin 1024) :
    (W3 m ρ c (Proc.devRef .tc main_v4) : Vec Ideal S15x1x1024 .f32) (ix3 e 0 f) = a4 m c (ix2 e f) := by
  dsimp only [W3]
  after_reads_at

theorem W3_v5 (e : Fin 15) (f : Fin 768) :
    (W3 m ρ c (Proc.devRef .tc main_v5) : Vec Ideal S15x1x768 .f32) (ix3 e 0 f) = a6 m c (ix2 e f) := by
  dsimp only [W3]
  after_reads_at

/-! ## Between the launches -/

theorem W5_v0 (t : Fin 2048) (d : Fin 768) :
    (W5 m ρ c (Proc.devRef .tc main_v0) : Vec Ideal S2048x768 .f32) (ix2 t d) = a0 m c (ix3 t 0 d) := by
  rw [W5_of m ρ c main_v0 (by decide), W4_of m ρ c main_v0 (by decide +kernel)]
  exact W3_v0 m ρ c t d

theorem W5_v6 : (W5 m ρ c (Proc.devRef .tc main_v6) : Vec Ideal S2048x768 .f32) = res0 (V3 m ρ) c := by
  rw [W5_of m ρ c main_v6 (by decide)]
  exact W4_arr m ρ c 7

theorem W5_v7 (f : Fin 4096) :
    (W5 m ρ c (Proc.devRef .tc main_v7) : Vec Ideal S1x4096 .f32) (ix2 0 f) = a8 m c (ix1 f) := by
  have h : W4 m ρ c (Proc.devRef .tc main_arg8) = m ((c : Thread nD τ).loc main_arg8) := W4_args m ρ c main_arg8 (by decide)
  dsimp only [W5, a8]
  rw [← h]
  after_reads_at

theorem W5_v8 (f : Fin 2048) :
    (W5 m ρ c (Proc.devRef .tc main_v8) : Vec Ideal S1x2048 .f32) (ix2 0 f) = a9 m c (ix1 f) := by
  have h : W4 m ρ c (Proc.devRef .tc main_arg9) = m ((c : Thread nD τ).loc main_arg9) := W4_args m ρ c main_arg9 (by decide)
  dsimp only [W5, a9]
  rw [← h]
  after_reads_at

theorem W5_v9 (f : Fin 768) :
    (W5 m ρ c (Proc.devRef .tc main_v9) : Vec Ideal S1x768 .f32) (ix2 0 f) = a11 m c (ix1 f) := by
  have h : W4 m ρ c (Proc.devRef .tc main_arg11) = m ((c : Thread nD τ).loc main_arg11) := W4_args m ρ c main_arg11 (by decide)
  dsimp only [W5, a11]
  rw [← h]
  after_reads_at

/-! ## After the second launch -/

theorem W7_v11 (t : Fin 2048) (l : Fin 768) :
    (W7 m ρ c (Proc.devRef .tc main_v11) : Vec Ideal S2048x1x768 .f32) (ix3 t 0 l) = (W6 m ρ c (Proc.devRef .tc main_v10) : Vec Ideal S2048x768 .f32) (ix2 t l) := by
  dsimp only [W7]
  after_reads_at

end Cert.KernelIdeal.Hand
-- ==== Proof.Math.Blocks.lean ====
/- The blocks the two launches stage, read at an index of the arrays. -/
module

public import proofs.«01_k».proof.Proof.Math.Entry
public import Idealize.ShloMosaic.Lib.Pipeline.ValueKit

@[expose] public section

set_option maxRecDepth 16384

noncomputable section

namespace Cert.KernelIdeal.Hand

open Cert.KernelIdeal.Gen
open Idealize.ShloMosaic Idealize.ShloMosaic.TcCoe Idealize.SL.Sem

variable (V : (c : Dev nD) → (b : Ref sig .tc) → Buf (Elt Ideal) ((c : Thread nD τ).loc b)) (c : Dev nD)

/-! ## The first launch -/

theorem idx0_0 : ∀ t : Fin grid0.N, win0_0.index t = ![0, 0] := by decide +kernel
theorem idx0_1 : ∀ t : Fin grid0.N, win0_1.index t = ![0, 0] := by decide +kernel
theorem idx0_2 : ∀ t : Fin grid0.N, win0_2.index t = ![t.val / 8, 0, 0] := by decide +kernel
theorem idx0_3 : ∀ t : Fin grid0.N, win0_3.index t = ![t.val / 8, 0, 0] := by decide +kernel
theorem idx0_4 : ∀ t : Fin grid0.N, win0_4.index t = ![t.val / 8, 0, 0] := by decide +kernel
theorem idx0_5 : ∀ t : Fin grid0.N, win0_5.index t = ![t.val / 8, 0, 0] := by decide +kernel
theorem idx0_6 : ∀ t : Fin grid0.N, win0_6.index t = ![t.val / 8, 0, 0] := by decide +kernel
theorem idx0_7 : ∀ t : Fin grid0.N, win0_7.index t = ![0, 0] := by decide +kernel

theorem blk0_0 (t : Fin cfg0.N) (d : Fin 768) (k : Fin 16) :
    (iblk0 V c 0 t : Vec Ideal S768x16 .f32) (ix2 d k) = (V c main_v2 : Vec Ideal S768x16 .f32) (ix2 d k) := by
  blk_ext [iblk0, idx0_0 t]

theorem blk0_1 (t : Fin cfg0.N) (r : Fin 2048) (d : Fin 768) :
    (iblk0 V c 1 t : Vec Ideal S2048x768 .f32) (ix2 r d) = (V c main_v0 : Vec Ideal S2048x768 .f32) (ix2 r d) := by
  blk_ext [iblk0, idx0_1 t]

theorem blk0_2 (t : Fin cfg0.N) (e : Fin 15) (he : t.val / 8 = e.val) (d : Fin 768) (f : Fin 2048) :
    (iblk0 V c 2 t : Vec Ideal S1x768x2048 .f32) (ix3 0 d f) = (V c main_arg2 : Vec Ideal S15x768x2048 .f32) (ix3 e d f) := by
  blk_ext [iblk0, idx0_2 t]

theorem blk0_3 (t : Fin cfg0.N) (e : Fin 15) (he : t.val / 8 = e.val) (f : Fin 2048) :
    (iblk0 V c 3 t : Vec Ideal S1x1x2048 .f32) (ix3 0 0 f) = (V c main_v3 : Vec Ideal S15x1x2048 .f32) (ix3 e 0 f) := by
  blk_ext [iblk0, idx0_3 t]

theorem blk0_4 (t : Fin cfg0.N) (e : Fin 15) (he : t.val / 8 = e.val) (f : Fin 1024) :
    (iblk0 V c 4 t : Vec Ideal S1x1x1024 .f32) (ix3 0 0 f) = (V c main_v4 : Vec Ideal S15x1x1024 .f32) (ix3 e 0 f) := by
  blk_ext [iblk0, idx0_4 t]

theorem blk0_5 (t : Fin cfg0.N) (e : Fin 15) (he : t.val / 8 = e.val) (f : Fin 1024) (l : Fin 768) :
    (iblk0 V c 5 t : Vec Ideal S1x1024x768 .f32) (ix3 0 f l) = (V c main_arg5 : Vec Ideal S15x1024x768 .f32) (ix3 e f l) := by
  blk_ext [iblk0, idx0_5 t]

theorem blk0_6 (t : Fin cfg0.N) (e : Fin 15) (he : t.val / 8 = e.val) (l : Fin 768) :
    (iblk0 V c 6 t : Vec Ideal S1x1x768 .f32) (ix3 0 0 l) = (V c main_v5 : Vec Ideal S15x1x768 .f32) (ix3 e 0 l) := by
  blk_ext [iblk0, idx0_6 t]

theorem off1_at : ∀ t : Fin cfg0.N, k0_off1 (grid0.coords t) = ![256 * (t.val % 8), 0] := by
  show ∀ t : Fin grid0.N, k0_off1 (grid0.coords t) = ![256 * (t.val % 8), 0]
  decide +kernel

theorem coord0_at : ∀ t : Fin cfg0.N, (grid0.coords t 0).val = t.val / 8 := by
  show ∀ t : Fin grid0.N, (grid0.coords t 0).val = t.val / 8
  decide +kernel

/-- The rows of the tokens a point reads. -/
theorem tokens_at (p : Fin cfg0.N) (x : Vec Ideal S2048x768 .f32) (r : Fin 256) (t : Fin 2048) (ht : t.val = 256 * (p.val % 8) + r.val) (d : Fin 768) :
    tokens (grid0.coords p) x (ix2 r d) = x (ix2 t d) := by
  refine congrArg x (funext fun a => Fin.ext ?_)
  refine (ValueKit.rect_emb_unit_val _ _ _ _ a).trans ((congrArg (· + _) (congrFun (off1_at p) a)).trans ?_)
  match a with
  | ⟨0, _⟩ => exact ht.symm
  | ⟨1, _⟩ => exact Nat.zero_add _

/-- The first launch's result array is its staging buffer's last contents. -/
theorem res0_apply (t : Fin 2048) (l : Fin 768) : (res0 V c : Vec Ideal S2048x768 .f32) (ix2 t l) = out0 V c (ix2 t l) := by
  unfold res0
  have he : ((cfg0.win 7).blk last0).view.emb (ix2 t l) = (ix2 t l : S2048x768.Idx) := by
    blk_ext [idx0_7 last0]
  rw [← he]
  rw [View.write_emb_of_mem _ _ (Finset.mem_univ _), he]
  rfl

/-! ## The second launch -/

theorem idx1_0 : ∀ t : Fin grid1.N, win1_0.index t = ![t.val, 0] := by decide +kernel
theorem idx1_1 : ∀ t : Fin grid1.N, win1_1.index t = ![t.val, 0] := by decide +kernel
theorem idx1_2 : ∀ t : Fin grid1.N, win1_2.index t = ![0, 0] := by decide +kernel
theorem idx1_3 : ∀ t : Fin grid1.N, win1_3.index t = ![0, 0] := by decide +kernel
theorem idx1_4 : ∀ t : Fin grid1.N, win1_4.index t = ![0, 0] := by decide +kernel
theorem idx1_5 : ∀ t : Fin grid1.N, win1_5.index t = ![0, 0] := by decide +kernel
theorem idx1_6 : ∀ t : Fin grid1.N, win1_6.index t = ![0, 0] := by decide +kernel
theorem idx1_7 : ∀ t : Fin grid1.N, win1_7.index t = ![t.val, 0] := by decide +kernel

theorem blk1_0 (p : Fin cfg1.N) (r : Fin 256) (t : Fin 2048) (ht : t.val = 256 * p.val + r.val) (d : Fin 768) :
    (iblk1 V c 0 p : Vec Ideal S256x768 .f32) (ix2 r d) = (V c main_v0 : Vec Ideal S2048x768 .f32) (ix2 t d) := by
  blk_ext [iblk1, idx1_0 p]

theorem blk1_1 (p : Fin cfg1.N) (r : Fin 256) (t : Fin 2048) (ht : t.val = 256 * p.val + r.val) (d : Fin 768) :
    (iblk1 V c 1 p : Vec Ideal S256x768 .f32) (ix2 r d) = (V c main_v6 : Vec Ideal S2048x768 .f32) (ix2 t d) := by
  blk_ext [iblk1, idx1_1 p]

theorem blk1_2 (p : Fin cfg1.N) (d : Fin 768) (f : Fin 4096) :
    (iblk1 V c 2 p : Vec Ideal S768x4096 .f32) (ix2 d f) = (V c main_arg7 : Vec Ideal S768x4096 .f32) (ix2 d f) := by
  blk_ext [iblk1, idx1_2 p]

theorem blk1_3 (p : Fin cfg1.N) (f : Fin 4096) :
    (iblk1 V c 3 p : Vec Ideal S1x4096 .f32) (ix2 0 f) = (V c main_v7 : Vec Ideal S1x4096 .f32) (ix2 0 f) := by
  blk_ext [iblk1, idx1_3 p]

theorem blk1_4 (p : Fin cfg1.N) (f : Fin 2048) :
    (iblk1 V c 4 p : Vec Ideal S1x2048 .f32) (ix2 0 f) = (V c main_v8 : Vec Ideal S1x2048 .f32) (ix2 0 f) := by
  blk_ext [iblk1, idx1_4 p]

theorem blk1_5 (p : Fin cfg1.N) (f : Fin 2048) (l : Fin 768) :
    (iblk1 V c 5 p : Vec Ideal S2048x768 .f32) (ix2 f l) = (V c main_arg10 : Vec Ideal S2048x768 .f32) (ix2 f l) := by
  blk_ext [iblk1, idx1_5 p]

theorem blk1_6 (p : Fin cfg1.N) (l : Fin 768) :
    (iblk1 V c 6 p : Vec Ideal S1x768 .f32) (ix2 0 l) = (V c main_v9 : Vec Ideal S1x768 .f32) (ix2 0 l) := by
  blk_ext [iblk1, idx1_6 p]

/-- The body's result is its one store. -/
theorem out1_7_eq (x0 x1 : Vec Ideal S256x768 .f32) (x2 : Vec Ideal S768x4096 .f32) (x3 : Vec Ideal S1x4096 .f32) (x4 : Vec Ideal S1x2048 .f32)
    (x5 : Vec Ideal S2048x768 .f32) (x6 : Vec Ideal S1x768 .f32) : out1_7 x0 x1 x2 x3 x4 x5 x6 = k1_pay1 x0 x2 x3 x4 x5 x6 x1 := by
  unfold out1_7
  frame_out

/-- The second launch's result array from its blocks. -/
theorem arr1_7 (G : Vec Ideal S2048x768 .f32)
    (hG : ∀ (p : Fin cfg1.N) (r : Fin 256) (t : Fin 2048) (l : Fin 768), t.val = 256 * p.val + r.val →
      k1_pay1 (iblk1 V c 0 p : Vec Ideal S256x768 .f32) (iblk1 V c 2 p : Vec Ideal S768x4096 .f32) (iblk1 V c 3 p : Vec Ideal S1x4096 .f32)
        (iblk1 V c 4 p : Vec Ideal S1x2048 .f32) (iblk1 V c 5 p : Vec Ideal S2048x768 .f32) (iblk1 V c 6 p : Vec Ideal S1x768 .f32)
        (iblk1 V c 1 p : Vec Ideal S256x768 .f32) (ix2 r l) = G (ix2 t l)) :
    (dat1 V c).arrAt 7 cfg1.N = G := by
  refine (dat1 V c).arrAt_eq_of_covers 7 _ (by decide +kernel) fun p hf y => ?_
  rw [after1_7, out1_7_eq]
  have hp : p.val < 8 := p.isLt
  have h0 : (y 0).val < 256 := (y 0).isLt
  have h1 : (y 1).val < 768 := (y 1).isLt
  have hy : y = (ix2 ⟨(y 0).val, h0⟩ ⟨(y 1).val, h1⟩ : S256x768.Idx) := by
    funext a
    match a with
    | ⟨0, _⟩ => rfl
    | ⟨1, _⟩ => rfl
  have he : ((cfg1.win 7).blk p).view.emb y = (ix2 ⟨256 * p.val + (y 0).val, by omega⟩ ⟨(y 1).val, h1⟩ : S2048x768.Idx) := by
    blk_ext [idx1_7 p]
  rw [he]
  blk_simp
  refine Eq.trans ?_ (hG p ⟨(y 0).val, h0⟩ ⟨256 * p.val + (y 0).val, by omega⟩ ⟨(y 1).val, h1⟩ rfl)
  exact congrArg (k1_pay1 (F := Ideal) (iblk1 V c 0 p) (iblk1 V c 2 p) (iblk1 V c 3 p) (iblk1 V c 4 p) (iblk1 V c 5 p) (iblk1 V c 6 p) (iblk1 V c 1 p)) hy

end Cert.KernelIdeal.Hand
-- ==== Proof.Math.Sort.lean ====
/- A stable sort by descending key puts, among equal keys, the lower position first.  So its first three positions are what three rounds
   of "take the greatest, at its lowest position, then mask it" find. -/
module

public import Idealize.ShloMosaic.Lib.SortFacts
public import Idealize.ShloMosaic.Lib.PlanTiles.StableSort
public import Idealize.ShloMosaic.Lib.Pointwise

@[expose] public section

noncomputable section

namespace Cert.Moe

open Idealize.ShloMosaic

/-- `a` holds the greatest value of `w`, and no lower position holds it too. -/
def IsPick {n : Nat} (w : Fin n → EReal) (a : Fin n) : Prop := ∀ b, b ≠ a → w b < w a ∨ (w b = w a ∧ a < b)

theorem IsPick.le {n : Nat} {w : Fin n → EReal} {a : Fin n} (h : IsPick w a) (b : Fin n) : w b ≤ w a := by
  by_cases e : b = a
  · rw [e]
  · rcases h b e with h | h
    · exact h.le
    · exact h.1.le

/-- How many positions hold less than position `k`. -/
def below {n : Nat} (q : Fin n → EReal) (k : Fin n) : Nat := (Finset.univ.filter fun j => q j < q k).card

theorem below_lt_iff {n : Nat} (q : Fin n → EReal) (a b : Fin n) : below q a < below q b ↔ q a < q b := by
  constructor
  · intro h
    by_contra hn
    refine absurd (Finset.card_le_card ?_) (not_le.mpr h)
    intro j hj
    rw [Finset.mem_filter] at hj ⊢
    exact ⟨hj.1, lt_of_lt_of_le hj.2 (not_lt.mp hn)⟩
  · intro h
    refine Finset.card_lt_card ?_
    rw [Finset.ssubset_iff_of_subset]
    · exact ⟨a, by simp [h], by simp⟩
    · intro j hj
      rw [Finset.mem_filter] at hj ⊢
      exact ⟨hj.1, hj.2.trans h⟩

theorem below_inj {n : Nat} (q : Fin n → EReal) {a b : Fin n} (h : below q a = below q b) : q a = q b := by
  rcases lt_trichotomy (q a) (q b) with h' | h' | h'
  · exact absurd ((below_lt_iff q a b).mpr h') (by omega)
  · exact h'
  · exact absurd ((below_lt_iff q b a).mpr h') (by omega)

/-- The order in which the stable sort by descending key leaves the positions. -/
theorem sortedFrom_desc {n : Nat} (q : Fin n → EReal) (B : Fin n → Fin n → Bool) (hB : ∀ a b, B a b = decide (q b < q a)) {i j : Fin n} (hij : i < j) :
    q (sortedFrom B j) < q (sortedFrom B i) ∨ (q (sortedFrom B j) = q (sortedFrom B i) ∧ sortedFrom B i < sortedFrom B j) := by
  have e : B = fun x y => decide (below q y < below q x) := by
    funext a b
    rw [hB]
    exact decide_eq_decide.mpr (below_lt_iff q b a).symm
  have h := PlanTiles.pairwise_stableSort_lex (below q) (· < ·) (List.finRange n) (List.pairwise_lt_finRange n)
  rw [← e] at h
  have hp : ∀ a b : Fin (sortPositions n B).length, a < b →
      PlanTiles.Lex (below q) (· < ·) ((sortPositions n B).get a) ((sortPositions n B).get b) := List.pairwise_iff_get.mp h
  have := hp (i.cast (length_sortPositions n B).symm) (j.cast (length_sortPositions n B).symm) hij
  rcases this with h1 | ⟨h1, h2⟩
  · exact Or.inl ((below_lt_iff q _ _).mp h1)
  · exact Or.inr ⟨(below_inj q h1).symm, h2⟩

/-- The position the sort puts at `i`, against any position it does not put before `i`. -/
theorem sortedFrom_pick {n : Nat} (q : Fin n → EReal) (B : Fin n → Fin n → Bool) (hB : ∀ a b, B a b = decide (q b < q a)) (i : Fin n) (p : Fin n)
    (hp : p ≠ sortedFrom B i) (hlow : ∀ j, j < i → p ≠ sortedFrom B j) :
    q p < q (sortedFrom B i) ∨ (q p = q (sortedFrom B i) ∧ sortedFrom B i < p) := by
  obtain ⟨j, rfl⟩ := sortedFrom_surjective B p
  rcases lt_trichotomy i j with h | h | h
  · exact sortedFrom_desc q B hB h
  · exact absurd (h ▸ rfl) hp
  · exact absurd rfl (hlow j h)

/-- The maximum over the positions is the pick's value. -/
theorem fold_max_pick {n : Nat} {w : Fin n → EReal} {a : Fin n} (h : IsPick w a) : Finset.univ.fold max (⊥ : EReal) w = w a := by
  refine le_antisymm ?_ ?_
  · rw [Finset.fold_max_le]
    exact ⟨bot_le, fun b _ => h.le b⟩
  · rw [Finset.le_fold_max]
    exact Or.inr ⟨a, Finset.mem_univ a, le_rfl⟩

theorem minsi_ofNat (a b : Nat) (ha : a < 2 ^ 31) (hb : b < 2 ^ 31) :
    IntOp.minsi (BitVec.ofNat 32 a) (BitVec.ofNat 32 b) = BitVec.ofNat 32 (min a b) := by
  have ea : (BitVec.ofNat 32 a).toInt = a := by
    rw [BitVec.toInt_eq_toNat_of_lt] <;> rw [BitVec.toNat_ofNat, Nat.mod_eq_of_lt] <;> omega
  have eb : (BitVec.ofNat 32 b).toInt = b := by
    rw [BitVec.toInt_eq_toNat_of_lt] <;> rw [BitVec.toNat_ofNat, Nat.mod_eq_of_lt] <;> omega
  unfold IntOp.minsi
  rw [BitVec.slt, ea, eb]
  by_cases h : a < b
  · rw [min_eq_left h.le]; simp [h]
  · rw [min_eq_right (by omega)]; simp; intro hh; omega

theorem fold_minsi_ofNat {ι : Type} [DecidableEq ι] (s : Finset ι) (c : Nat) (f : ι → Nat) (hc : c < 2 ^ 31) (hf : ∀ i, f i < 2 ^ 31) :
    s.fold IntOp.minsi (BitVec.ofNat 32 c) (fun i => BitVec.ofNat 32 (f i)) = BitVec.ofNat 32 (s.fold min c f) ∧ s.fold min c f < 2 ^ 31 := by
  induction s using Finset.induction_on with
  | empty => exact ⟨rfl, hc⟩
  | insert a s ha ih =>
    rw [Finset.fold_insert ha, Finset.fold_insert ha, ih.1, minsi_ofNat _ _ (hf a) ih.2]
    exact ⟨rfl, lt_of_le_of_lt (min_le_left _ _) (hf a)⟩

/-- The least of the positions that hold the pick's value (16 standing for the others) is the pick. -/
theorem fold_minsi_pick {w : Fin 16 → EReal} {a : Fin 16} (h : IsPick w a) :
    Finset.univ.fold IntOp.minsi 2147483647#32 (fun k : Fin 16 => if w a ≤ w k then BitVec.ofNat 32 k.val else 16#32) = BitVec.ofNat 32 a.val := by
  have e : (fun k : Fin 16 => if w a ≤ w k then BitVec.ofNat 32 k.val else 16#32)
      = fun k : Fin 16 => BitVec.ofNat 32 (if w a ≤ w k then k.val else 16) := by
    funext k; split <;> rfl
  rw [e]
  have h2 := fold_minsi_ofNat (Finset.univ : Finset (Fin 16)) 2147483647 (fun k => if w a ≤ w k then k.val else 16) (by norm_num)
    (fun k => by split <;> omega)
  refine h2.1.trans (congrArg _ (le_antisymm ?_ ?_))
  · rw [Finset.fold_min_le]
    exact Or.inr ⟨a, Finset.mem_univ a, by rw [if_pos le_rfl]⟩
  · rw [Finset.le_fold_min]
    refine ⟨by omega, fun k _ => ?_⟩
    split
    · next hk =>
      by_cases e : k = a
      · rw [e]
      · rcases h k e with h' | h'
        · exact absurd hk (not_le.mpr h')
        · exact h'.2.le
    · omega

end Cert.Moe

end
-- ==== Proof.Math.Row.lean ====
/- One row of the router: the sixteen lanes the kernel works on (the last one masked) against the fifteen logits of the reference.
   The kernel takes the greatest weight at its lowest lane three times over, masking what it has taken; the reference sorts.  The weights
   and the scattered result agree for every row of extended reals: either the exponentials' sum is not zero, and then every weight is at least
   zero and the masked lane is never taken before a real one, or it is zero, and both sides give zero on every expert. -/
module

public import proofs.«01_k».proof.Proof.Math.Sort

@[expose] public section

noncomputable section

namespace Cert.Moe

open Idealize.ShloMosaic

/-! ## Scalars -/

theorem exp_nonneg (x : EReal) : 0 ≤ Ideal.exp x := by
  induction x using EReal.rec with
  | bot => exact le_refl (0 : EReal)
  | top => exact le_top
  | coe r => exact EReal.coe_nonneg.mpr (Real.exp_pos r).le

theorem bot_sub (x : EReal) : (⊥ : EReal) - x = ⊥ := by
  rw [sub_eq_add_neg, EReal.bot_add]

theorem ofBits_bot : Ideal.ofBits .f32 0xFF800000#32 = (⊥ : EReal) := by
  simp [Ideal.ofBits, Ideal.ieee]

theorem eps_pos : (0 : EReal) < Ideal.ofBits .f32 0x1E3CE508#32 := by
  simp only [Ideal.ofBits, Ideal.ieee]
  rw [if_neg (by decide), if_neg (by decide), if_neg (by decide)]
  exact EReal.coe_pos.mpr (mul_pos (mul_pos one_pos (Nat.cast_pos.mpr (by decide))) (zpow_pos two_pos _))

/-- Dividing one and then multiplying is dividing, off zero. -/
theorem mul_div_one {v d : EReal} (hd : d ≠ 0) : v * Ideal.div 1 d = Ideal.div v d := by
  unfold Ideal.div
  rw [if_neg hd, if_neg hd, one_mul]

theorem ofNat_inj {a b : Nat} (ha : a < 2 ^ 32) (hb : b < 2 ^ 32) : BitVec.ofNat 32 a = BitVec.ofNat 32 b ↔ a = b := by
  constructor
  · intro h
    have := congrArg BitVec.toNat h
    rwa [BitVec.toNat_ofNat, BitVec.toNat_ofNat, Nat.mod_eq_of_lt ha, Nat.mod_eq_of_lt hb] at this
  · rintro rfl; rfl

theorem select_lane {α : Type} (a b : Nat) (ha : a < 2 ^ 32) (hb : b < 2 ^ 32) (u v : α) :
    Scalar.select (IntOp.cmpi .eq (BitVec.ofNat 32 a) (BitVec.ofNat 32 b)) u v = if a = b then u else v := by
  by_cases h : a = b
  · subst h; simp [Scalar.select, IntOp.cmpi]
  · have : ¬ BitVec.ofNat 32 a = BitVec.ofNat 32 b := fun e => h ((ofNat_inj ha hb).mp e)
    simp [Scalar.select, IntOp.cmpi, h, beq_eq_false_iff_ne.mpr this]

/-! ## The kernel's picks -/

/-- The greatest of sixteen. -/
def top (w : Fin 16 → EReal) : EReal := Finset.univ.fold max ⊥ w

/-- The lowest lane that holds the greatest, as a word. -/
def pos (w : Fin 16 → EReal) : BitVec 32 :=
  Finset.univ.fold IntOp.minsi 2147483647#32 fun k : Fin 16 => if top w ≤ w k then BitVec.ofNat 32 k.val else 16#32

/-- The lanes with the one at `i` masked. -/
def mask (i : BitVec 32) (w : Fin 16 → EReal) : Fin 16 → EReal := fun k => Scalar.select (IntOp.cmpi .eq (BitVec.ofNat 32 k.val) i) ⊥ (w k)

/-- One at the lane `i`, zero elsewhere. -/
def hot (i : BitVec 32) (l : Fin 16) : EReal := FloatOps.sitofp (F := Ideal) .f32 (BitVec.setWidth 32 (IntOp.cmpi .eq (BitVec.ofNat 32 l.val) i))

/-- The kernel's combine weights of a row `p`, three rounds. -/
def pickComb (p : Fin 16 → EReal) (ε : EReal) (l : Fin 16) : EReal :=
  let w2 := mask (pos p) p
  let w3 := mask (pos w2) w2
  let inv := Ideal.div 1 (0 + top p + top w2 + top w3 + ε)
  0 + top p * inv * hot (pos p) l + top w2 * inv * hot (pos w2) l + top w3 * inv * hot (pos w3) l

def maskAt (a : Fin 16) (w : Fin 16 → EReal) : Fin 16 → EReal := fun k => if k = a then ⊥ else w k

theorem pos_pick {w : Fin 16 → EReal} {a : Fin 16} (h : IsPick w a) : pos w = BitVec.ofNat 32 a.val := by
  unfold pos top
  rw [fold_max_pick h]
  exact fold_minsi_pick h

theorem top_pick {w : Fin 16 → EReal} {a : Fin 16} (h : IsPick w a) : top w = w a := fold_max_pick h

theorem mask_ofNat (w : Fin 16 → EReal) (a : Fin 16) : mask (BitVec.ofNat 32 a.val) w = maskAt a w := by
  funext k
  unfold mask maskAt
  rw [select_lane _ _ (by omega) (by omega)]
  simp only [Fin.ext_iff]

theorem hot_ofNat (a l : Fin 16) : hot (BitVec.ofNat 32 a.val) l = if l = a then 1 else 0 := by
  unfold hot
  by_cases h : l = a
  · subst h
    rw [if_pos rfl]
    simp [IntOp.cmpi, FloatOps.sitofp]
  · rw [if_neg h]
    have : ¬ BitVec.ofNat 32 l.val = BitVec.ofNat 32 a.val := fun e => h (Fin.ext ((ofNat_inj (by omega) (by omega)).mp e))
    simp [IntOp.cmpi, FloatOps.sitofp, beq_eq_false_iff_ne.mpr this]

theorem pickComb_eq {p : Fin 16 → EReal} {a1 a2 a3 : Fin 16} (h1 : IsPick p a1) (h2 : IsPick (maskAt a1 p) a2)
    (h3 : IsPick (maskAt a2 (maskAt a1 p)) a3) (ε : EReal) (l : Fin 16) :
    pickComb p ε l =
      0 + p a1 * Ideal.div 1 (0 + p a1 + maskAt a1 p a2 + maskAt a2 (maskAt a1 p) a3 + ε) * (if l = a1 then 1 else 0)
        + maskAt a1 p a2 * Ideal.div 1 (0 + p a1 + maskAt a1 p a2 + maskAt a2 (maskAt a1 p) a3 + ε) * (if l = a2 then 1 else 0)
        + maskAt a2 (maskAt a1 p) a3 * Ideal.div 1 (0 + p a1 + maskAt a1 p a2 + maskAt a2 (maskAt a1 p) a3 + ε) * (if l = a3 then 1 else 0) := by
  unfold pickComb
  simp only [pos_pick h1, mask_ofNat, pos_pick h2, pos_pick h3, top_pick h1, top_pick h2, top_pick h3, hot_ofNat]

/-! ## The reference's weights -/

/-- The softmax of `n` logits. -/
def soft {n : Nat} (L : Fin n → EReal) (k : Fin n) : EReal :=
  Ideal.div (Ideal.exp (L k - Finset.univ.fold max ⊥ L)) (∑ j, Ideal.exp (L j - Finset.univ.fold max ⊥ L))

/-- The expert that comes `r`-th by descending weight. -/
def nth (q : Fin 15 → EReal) (r : Fin 3) : Fin 15 := sortedFrom (fun a b => decide (q b < q a)) (r.castLE (by decide))

/-- The reference's combine weights of a row `q`. -/
def sortComb (q : Fin 15 → EReal) (ε : EReal) (e : Fin 15) : EReal :=
  ∑ r : Fin 3, Ideal.div (q (nth q r)) ((∑ s : Fin 3, q (nth q s)) + ε) * (if nth q r = e then 1 else 0)

theorem nth_ne (q : Fin 15 → EReal) {r s : Fin 3} (h : r ≠ s) : nth q r ≠ nth q s := fun e =>
  h (Fin.castLE_injective (by decide) (sortedFrom_injective _ e))

theorem nth_pick (q : Fin 15 → EReal) (r : Fin 3) (p : Fin 15) (hp : ∀ s, s ≤ r → p ≠ nth q s) :
    q p < q (nth q r) ∨ (q p = q (nth q r) ∧ nth q r < p) := by
  refine sortedFrom_pick q _ (fun _ _ => rfl) _ p (hp r le_rfl) fun j hj => ?_
  have hlt : j.val < r.val := hj
  have := hp ⟨j.val, by omega⟩ (Fin.le_def.mpr hlt.le)
  exact this

section picks
variable {p : Fin 16 → EReal} {q : Fin 15 → EReal} (hp : ∀ j : Fin 15, p j.castSucc = q j) (hl : p (Fin.last 15) = 0) (hq : ∀ j, 0 ≤ q j)
include hp hl hq

theorem lanes_pick (w : Fin 16 → EReal) (r : Fin 3) (hw : ∀ b : Fin 16, (∃ s, s < r ∧ b = (nth q s).castSucc) → w b = ⊥)
    (hw' : ∀ b : Fin 16, (∀ s, s < r → b ≠ (nth q s).castSucc) → w b = p b) : IsPick w (nth q r).castSucc := by
  have hr : w (nth q r).castSucc = q (nth q r) := by
    rw [hw' _ fun s hs e => nth_ne q (ne_of_lt hs) (Fin.castSucc_injective _ e).symm, hp]
  intro b hb
  rw [hr]
  by_cases hm : ∃ s, s < r ∧ b = (nth q s).castSucc
  · rw [hw b hm]
    exact Or.inl (lt_of_lt_of_le EReal.bot_lt_zero (hq _))
  · have hm' : ∀ s, s < r → b ≠ (nth q s).castSucc := fun s hs e => hm ⟨s, hs, e⟩
    rw [hw' b hm']
    induction b using Fin.lastCases with
    | last =>
      rw [hl]
      rcases (hq (nth q r)).lt_or_eq with h | h
      · exact Or.inl h
      · exact Or.inr ⟨h, Fin.castSucc_lt_last _⟩
    | cast j =>
      rw [hp]
      rcases nth_pick q r j fun s hs e => by
        subst e
        rcases hs.lt_or_eq with h | h
        · exact hm' s h rfl
        · subst h; exact hb rfl
        with h | h
      · exact Or.inl h
      · exact Or.inr ⟨h.1, Fin.castSucc_lt_castSucc_iff.mpr h.2⟩

theorem comb_of_nonneg {ε : EReal} (hε : 0 < ε) (e : Fin 15) : pickComb p ε e.castSucc = sortComb q ε e := by
  have h1 : IsPick p (nth q 0).castSucc := lanes_pick hp hl hq p 0 (fun b ⟨s, hs, _⟩ => absurd hs (Fin.not_lt_zero s)) (fun b _ => rfl)
  have h2 : IsPick (maskAt (nth q 0).castSucc p) (nth q 1).castSucc := by
    refine lanes_pick hp hl hq _ 1 (fun b ⟨s, hs, hb⟩ => ?_) (fun b hb => ?_)
    · have : s = 0 := by omega
      subst this; unfold maskAt; rw [if_pos hb]
    · unfold maskAt; rw [if_neg (hb 0 (by decide))]
  have h3 : IsPick (maskAt (nth q 1).castSucc (maskAt (nth q 0).castSucc p)) (nth q 2).castSucc := by
    refine lanes_pick hp hl hq _ 2 (fun b ⟨s, hs, hb⟩ => ?_) (fun b hb => ?_)
    · have : s = 0 ∨ s = 1 := by omega
      unfold maskAt
      rcases this with rfl | rfl
      · rw [if_pos hb, ite_self]
      · rw [if_pos hb]
    · unfold maskAt; rw [if_neg (hb 1 (by decide)), if_neg (hb 0 (by decide))]
  have e2 : maskAt (nth q 0).castSucc p (nth q 1).castSucc = q (nth q 1) := by
    unfold maskAt
    rw [if_neg fun h => nth_ne q (by decide) (Fin.castSucc_injective _ h), hp]
  have e3 : maskAt (nth q 1).castSucc (maskAt (nth q 0).castSucc p) (nth q 2).castSucc = q (nth q 2) := by
    unfold maskAt
    rw [if_neg fun h => nth_ne q (by decide) (Fin.castSucc_injective _ h), if_neg fun h => nth_ne q (by decide) (Fin.castSucc_injective _ h), hp]
  rw [pickComb_eq h1 h2 h3, e2, e3, hp]
  unfold sortComb
  rw [Fin.sum_univ_three, Fin.sum_univ_three, zero_add, zero_add]
  have hd : q (nth q 0) + q (nth q 1) + q (nth q 2) + ε ≠ 0 := by
    refine ne_of_gt (lt_of_lt_of_le hε ?_)
    have := add_le_add (add_nonneg (add_nonneg (hq (nth q 0)) (hq (nth q 1))) (hq (nth q 2))) (le_refl ε)
    rwa [zero_add] at this
  rw [mul_div_one hd, mul_div_one hd, mul_div_one hd]
  simp only [Fin.castSucc_inj, eq_comm (a := e)]

end picks

theorem div_bot (x : EReal) : Ideal.div x ⊥ = 0 := by
  unfold Ideal.div
  rw [if_neg (by decide), EReal.inv_bot, mul_zero]

theorem comb_of_bot {p : Fin 16 → EReal} {q : Fin 15 → EReal} (hp : ∀ j, p j = ⊥) (hq : ∀ j, q j = ⊥) (ε : EReal) (e : Fin 15) :
    pickComb p ε e.castSucc = sortComb q ε e := by
  have hpick : ∀ w : Fin 16 → EReal, (∀ j, w j = ⊥) → IsPick w 0 := fun w hw b hb =>
    Or.inr ⟨by rw [hw, hw], Fin.pos_iff_ne_zero.mpr hb⟩
  have hm : ∀ w : Fin 16 → EReal, (∀ j, w j = ⊥) → ∀ j, maskAt 0 w j = ⊥ := fun w hw j => by
    unfold maskAt
    rw [hw, ite_self]
  rw [pickComb_eq (hpick _ hp) (hpick _ (hm _ hp)) (hpick _ (hm _ (hm _ hp)))]
  unfold sortComb
  simp only [hm _ (hm _ hp), hm _ hp, hp, hq, Fin.sum_univ_three, EReal.bot_add, EReal.add_bot, div_bot, mul_zero, zero_mul, add_zero]

/-- THE ROW: the kernel's weights of the padded and masked logits are the reference's of the logits. -/
theorem comb_eq {L : Fin 15 → EReal} {L' : Fin 16 → EReal} (hL : ∀ j : Fin 15, L' j.castSucc = L j) (hL' : L' (Fin.last 15) = ⊥) {ε : EReal}
    (hε : 0 < ε) (e : Fin 15) : pickComb (soft L') ε e.castSucc = sortComb (soft L) ε e := by
  have hM : (Finset.univ.fold max ⊥ L' : EReal) = Finset.univ.fold max ⊥ L := by
    refine le_antisymm ?_ ?_
    · rw [Finset.fold_max_le]
      refine ⟨bot_le, fun b _ => ?_⟩
      induction b using Fin.lastCases with
      | last => rw [hL']; exact bot_le
      | cast j => rw [hL, Finset.le_fold_max]; exact Or.inr ⟨j, Finset.mem_univ j, le_rfl⟩
    · rw [Finset.fold_max_le]
      refine ⟨bot_le, fun b _ => ?_⟩
      rw [← hL, Finset.le_fold_max]
      exact Or.inr ⟨_, Finset.mem_univ _, le_rfl⟩
  have hlast : Ideal.exp (L' (Fin.last 15) - Finset.univ.fold max ⊥ L) = 0 := by
    rw [hL', bot_sub]; rfl
  have hS : (∑ j, Ideal.exp (L' j - Finset.univ.fold max ⊥ L')) = ∑ j, Ideal.exp (L j - Finset.univ.fold max ⊥ L) := by
    rw [hM, Fin.sum_univ_castSucc, hlast, add_zero]
    exact Finset.sum_congr rfl fun j _ => by rw [hL]
  have hS0 : 0 ≤ ∑ j, Ideal.exp (L j - Finset.univ.fold max ⊥ L) := Finset.sum_nonneg fun j _ => exp_nonneg _
  by_cases hz : (∑ j, Ideal.exp (L j - Finset.univ.fold max ⊥ L)) = 0
  · have hzero : ∀ j, Ideal.exp (L j - Finset.univ.fold max ⊥ L) = 0 := fun j =>
      le_antisymm (hz ▸ Finset.single_le_sum (f := fun j => Ideal.exp (L j - Finset.univ.fold max ⊥ L)) (fun j _ => exp_nonneg _) (Finset.mem_univ j))
        (exp_nonneg _)
    have hdiv : Ideal.div 0 0 = (⊥ : EReal) := by
      unfold Ideal.div
      rw [if_pos rfl, if_neg (lt_irrefl _)]
    refine comb_of_bot (fun j => ?_) (fun j => ?_) ε e
    · unfold soft
      rw [hS, hz, hM]
      induction j using Fin.lastCases with
      | last => rw [hlast, hdiv]
      | cast j => rw [hL, hzero, hdiv]
    · unfold soft
      rw [hz, hzero, hdiv]
  · refine comb_of_nonneg (fun j => ?_) ?_ (fun j => ?_) hε e
    · unfold soft
      rw [hS, hM, hL]
    · unfold soft
      rw [hS, hM, hlast]
      unfold Ideal.div
      rw [if_neg hz, zero_mul]
    · unfold soft Ideal.div
      rw [if_neg hz]
      exact mul_nonneg (exp_nonneg _) (EReal.inv_nonneg_of_nonneg hS0)

end Cert.Moe

end
-- ==== Proof.Math.Tile.lean ====
/- The kernel's tiles read at an index, over the extended reals: the router's combine weights, an expert's product, a step of the sum over
   the experts, and the shared expert's tile. -/
module

public import proofs.«01_k».proof.Proof.Ideal.Body
public import proofs.«01_k».proof.Proof.Math.Row
public import Idealize.ShloMosaic.PureOps.IdealRules

@[expose] public section

set_option maxRecDepth 16384

noncomputable section

namespace Cert.KernelIdeal.Hand

open Cert.KernelIdeal.Gen Cert.Moe
open Idealize.ShloMosaic

theorem named_mask : (Named.named (F := Ideal) κ "mask" 0xF149F2CA#32 : Ideal .f32) = (⊥ : EReal) :=
  IdealRules.named_const.ideal_named_scalar _ _ _ _ rfl

/-- A token's logits on the sixteen lanes, the last one masked. -/
def laneLogits (x : FVec Ideal S256x768 .f32) (g : Vec Ideal S768x16 .f32) (r : Fin 256) (k : Fin 16) : EReal :=
  Scalar.select (IntOp.cmpi .slt (BitVec.ofNat 32 k.val) 15#32) (∑ d : Fin 768, x (ix2 r d) * g (ix2 d k)) ⊥

theorem pay5_apply (x : FVec Ideal S256x768 .f32) (g : Vec Ideal S768x16 .f32) (r : Fin 256) (l : Fin 16) :
    k0_pay5 x lanes g (ix2 r l) = soft (laneLogits x g r) l := by
  pointwise [k0_pay5, lanes, named_mask, ofBits_bot]
  rfl

theorem pay7_apply (x : FVec Ideal S256x768 .f32) (g : Vec Ideal S768x16 .f32) (r : Fin 256) :
    k0_pay7 x lanes g (ix2 r 0) = top (soft (laneLogits x g r)) := by
  pointwise [k0_pay7, ofBits_bot, pay5_apply]
  rfl

theorem pay8_apply (x : FVec Ideal S256x768 .f32) (g : Vec Ideal S768x16 .f32) (r : Fin 256) :
    k0_pay8 x lanes g (ix2 r 0) = pos (soft (laneLogits x g r)) := by
  pointwise [k0_pay8, pay5_apply, pay7_apply]
  rfl

theorem pay9_apply (x : FVec Ideal S256x768 .f32) (g : Vec Ideal S768x16 .f32) (r : Fin 256) (l : Fin 16) :
    k0_pay9 x lanes g (ix2 r l) = hot (pos (soft (laneLogits x g r))) l := by
  pointwise [k0_pay9, lanes]
  rw [show iota .tc S256x16 32 [1] iota_S256x16_d1_w32 = lanes from rfl, pay8_apply]
  rfl

theorem pay10_apply (x : FVec Ideal S256x768 .f32) (g : Vec Ideal S768x16 .f32) (r : Fin 256) :
    k0_pay10 x lanes g (ix2 r 0) = 0 + top (soft (laneLogits x g r)) := by
  rw [zero_add]
  pointwise [k0_pay10, pay7_apply]

theorem pay11_apply (x : FVec Ideal S256x768 .f32) (g : Vec Ideal S768x16 .f32) (r : Fin 256) (l : Fin 16) :
    k0_pay11 x lanes g (ix2 r l) = mask (pos (soft (laneLogits x g r))) (soft (laneLogits x g r)) l := by
  pointwise [k0_pay11, lanes]
  rw [show iota .tc S256x16 32 [1] iota_S256x16_d1_w32 = lanes from rfl, pay8_apply, pay5_apply, named_mask]
  rfl

theorem pay12_apply (x : FVec Ideal S256x768 .f32) (g : Vec Ideal S768x16 .f32) (r : Fin 256) :
    k0_pay12 x lanes g (ix2 r 0) = top (mask (pos (soft (laneLogits x g r))) (soft (laneLogits x g r))) := by
  pointwise [k0_pay12, ofBits_bot, pay11_apply]
  rfl

theorem pay13_apply (x : FVec Ideal S256x768 .f32) (g : Vec Ideal S768x16 .f32) (r : Fin 256) :
    k0_pay13 x lanes g (ix2 r 0) = pos (mask (pos (soft (laneLogits x g r))) (soft (laneLogits x g r))) := by
  pointwise [k0_pay13, pay11_apply, pay12_apply]
  rfl

theorem pay14_apply (x : FVec Ideal S256x768 .f32) (g : Vec Ideal S768x16 .f32) (r : Fin 256) (l : Fin 16) :
    k0_pay14 x lanes g (ix2 r l) = pos (mask (pos (soft (laneLogits x g r))) (soft (laneLogits x g r))) := by
  pointwise [k0_pay14, pay13_apply]

theorem pay16_apply (v68 : FVec Ideal S256x16 .f32) (v71 : FVec Ideal S256x1 .f32) (v81 : FVec Ideal S256x16 .f32) (v82 : FVec Ideal S256x1 .f32)
    (v86 : FVec Ideal S256x16 .f32) (v88 : FVec Ideal S256x1 .f32) (v94 : IVec S256x1 32) (v95 : IVec S256x16 32) (r : Fin 256) (l : Fin 16)
    (w : Fin 16 → EReal) (hw : ∀ k, v86 (ix2 r k) = w k) :
    k0_pay16 v68 v71 v81 v82 v86 v88 v94 v95 (ix2 r l)
      = v68 (ix2 r l)
        + v71 (ix2 r 0) * Ideal.div 1 (v82 (ix2 r 0) + v88 (ix2 r 0) + top (mask (v94 (ix2 r 0)) w) + Ideal.ofBits .f32 0x1E3CE508#32) * v81 (ix2 r l)
        + v88 (ix2 r 0) * Ideal.div 1 (v82 (ix2 r 0) + v88 (ix2 r 0) + top (mask (v94 (ix2 r 0)) w) + Ideal.ofBits .f32 0x1E3CE508#32) * hot (v95 (ix2 r l)) l
        + top (mask (v94 (ix2 r 0)) w) * Ideal.div 1 (v82 (ix2 r 0) + v88 (ix2 r 0) + top (mask (v94 (ix2 r 0)) w) + Ideal.ofBits .f32 0x1E3CE508#32)
          * hot (pos (mask (v94 (ix2 r 0)) w)) l := by
  pointwise [k0_pay16, ofBits_bot, named_mask, hw]
  rfl

/-- THE ROUTER's tile: the combine weights of each of its tokens. -/
theorem routeTile_apply (x : Vec Ideal S256x768 .f32) (g : Vec Ideal S768x16 .f32) (r : Fin 256) (l : Fin 16) :
    routeTile x g (ix2 r l) = pickComb (soft (laneLogits x g r)) (Ideal.ofBits .f32 0x1E3CE508#32) l := by
  have hx : k0_pay15 x = x := by
    funext j
    idx_vars j
    pointwise [k0_pay15]
  have h6 : k0_pay6 (F := Ideal) (ix2 r l) = 0 := by pointwise [k0_pay6]
  unfold routeTile
  rw [hx, pay16_apply _ _ _ _ _ _ _ _ r l _ (pay11_apply x g r), h6, pay7_apply, pay9_apply, pay10_apply, pay12_apply, pay13_apply, pay14_apply]
  rfl

/-! ## An expert -/

/-- The gated unit: the exact GELU of the gate times the value times the multiplier. -/
def gated (gate value mul : EReal) : EReal :=
  Ideal.ofBits .f32 0x3F000000#32 * gate * (1 + Ideal.erf (gate * Ideal.ofBits .f32 0x3F3504F3#32)) * value * mul

/-- An expert's hidden unit `f` of a token. -/
def hidden (x : Vec Ideal S256x768 .f32) (w1 : Vec Ideal S1x768x2048 .f32) (b1 : Vec Ideal S1x1x2048 .f32) (r : Fin 256) (f : Fin 2048) : EReal :=
  (∑ d : Fin 768, x (ix2 r d) * w1 (ix3 0 d f)) + b1 (ix3 0 0 f)

theorem pay17_apply (x : Vec Ideal S256x768 .f32) (w1 : Vec Ideal S1x768x2048 .f32) (b1 : Vec Ideal S1x1x2048 .f32) (mb : Vec Ideal S1x1x1024 .f32)
    (w2 : Vec Ideal S1x1024x768 .f32) (r : Fin 256) (l : Fin 768) :
    k0_pay17 x w1 b1 mb w2 (ix2 r l)
      = ∑ f : Fin 1024, gated (hidden x w1 b1 r ⟨1024 + f.val, by omega⟩) (hidden x w1 b1 r ⟨f.val, by omega⟩) (mb (ix3 0 0 f)) * w2 (ix3 0 f l) := by
  pointwise [k0_pay17, k0_pay15]
  rfl

theorem lane_sum (e : Fin 15) (w : Fin 16 → EReal) :
    (∑ k : Fin 16, Scalar.select (IntOp.cmpi .eq (BitVec.ofNat 32 k.val) (BitVec.ofNat 32 e.val)) (w k) 0) = w e.castSucc := by
  rw [Finset.sum_eq_single e.castSucc]
  · rw [select_lane _ _ (by omega) (by omega), if_pos (show e.castSucc.val = e.val from rfl)]
  · intro b _ hb
    rw [select_lane _ _ (by omega) (by omega), if_neg]
    exact fun h => hb (Fin.ext h)
  · intro h; exact absurd (Finset.mem_univ _) h

/-- An expert's output on a token. -/
def expertOut (x : Vec Ideal S256x768 .f32) (w1 : Vec Ideal S1x768x2048 .f32) (b1 : Vec Ideal S1x1x2048 .f32) (mb : Vec Ideal S1x1x1024 .f32)
    (w2 : Vec Ideal S1x1024x768 .f32) (b2 : Vec Ideal S1x1x768 .f32) (r : Fin 256) (l : Fin 768) : EReal :=
  (∑ f : Fin 1024, gated (hidden x w1 b1 r ⟨1024 + f.val, by omega⟩) (hidden x w1 b1 r ⟨f.val, by omega⟩) (mb (ix3 0 0 f)) * w2 (ix3 0 f l))
    + b2 (ix3 0 0 l)

theorem firstTile_apply (x : Vec Ideal S256x768 .f32) (w1 : Vec Ideal S1x768x2048 .f32) (b1 : Vec Ideal S1x1x2048 .f32) (mb : Vec Ideal S1x1x1024 .f32)
    (w2 : Vec Ideal S1x1024x768 .f32) (b2 : Vec Ideal S1x1x768 .f32) (ro : Vec Ideal S256x16 .f32) (e : Fin 15) (r : Fin 256) (l : Fin 768) :
    firstTile x w1 b1 mb w2 b2 ro (BitVec.ofNat 32 e.val) (ix2 r l) = ro (ix2 r e.castSucc) * expertOut x w1 b1 mb w2 b2 r l := by
  unfold firstTile
  generalize hp : k0_pay17 x w1 b1 mb w2 = p17
  pointwise [k0_pay3, k0_pay2, k0_pay1, lanes]
  rw [lane_sum e (fun k => ro (ix2 r k)), ← hp, pay17_apply]
  rfl

theorem laterTile_apply (x : Vec Ideal S256x768 .f32) (w1 : Vec Ideal S1x768x2048 .f32) (b1 : Vec Ideal S1x1x2048 .f32) (mb : Vec Ideal S1x1x1024 .f32)
    (w2 : Vec Ideal S1x1024x768 .f32) (b2 : Vec Ideal S1x1x768 .f32) (ro : Vec Ideal S256x16 .f32) (e : Fin 15) (a : Vec Ideal S256x768 .f32)
    (r : Fin 256) (l : Fin 768) :
    laterTile x w1 b1 mb w2 b2 ro (BitVec.ofNat 32 e.val) a (ix2 r l) = a (ix2 r l) + ro (ix2 r e.castSucc) * expertOut x w1 b1 mb w2 b2 r l := by
  unfold laterTile
  generalize hp : k0_pay17 x w1 b1 mb w2 = p17
  pointwise [k0_pay4, k0_pay2, k0_pay1, lanes]
  rw [lane_sum e (fun k => ro (ix2 r k)), ← hp, pay17_apply]
  rfl

/-! ## The shared expert -/

/-- The shared expert's hidden unit `f` of a token. -/
def sharedHidden (x : Vec Ideal S256x768 .f32) (w1 : Vec Ideal S768x4096 .f32) (b1 : Vec Ideal S1x4096 .f32) (r : Fin 256) (f : Fin 4096) : EReal :=
  (∑ d : Fin 768, x (ix2 r d) * w1 (ix2 d f)) + b1 (ix2 0 f)

theorem sharedTile_apply (x : Vec Ideal S256x768 .f32) (w1 : Vec Ideal S768x4096 .f32) (b1 : Vec Ideal S1x4096 .f32) (mb : Vec Ideal S1x2048 .f32)
    (w2 : Vec Ideal S2048x768 .f32) (b2 : Vec Ideal S1x768 .f32) (y : Vec Ideal S256x768 .f32) (r : Fin 256) (l : Fin 768) :
    k1_pay1 x w1 b1 mb w2 b2 y (ix2 r l)
      = y (ix2 r l) + ((∑ f : Fin 2048, gated (sharedHidden x w1 b1 r ⟨2048 + f.val, by omega⟩) (sharedHidden x w1 b1 r ⟨f.val, by omega⟩) (mb (ix2 0 f))
          * w2 (ix2 f l)) + b2 (ix2 0 l)) := by
  pointwise [k1_pay1]
  rfl

end Cert.KernelIdeal.Hand

end
-- ==== Proof.Math.Ref.lean ====
/- The reference read at an index, over the extended reals. -/
module

public import proofs.«01_k».proof.Proof.Math.Tile
public import proofs.«01_k».proof.Proof.Gen.ReferenceIdeal.Read
public import Idealize.ShloMosaic.Lib.Pointwise

@[expose] public section

set_option maxRecDepth 16384

noncomputable section

namespace Cert.ReferenceIdeal.Hand

open Cert.ReferenceIdeal Cert.ReferenceIdeal.Gen Cert.ReferenceIdeal.Read Cert.Moe
open Idealize.ShloMosaic

/-- A token's logits. -/
def logit (x0 : Vec Ideal S2048x1x768 .f32) (x1 : Vec Ideal S15x768 .f32) (t : Fin 2048) (j : Fin 15) : EReal :=
  ∑ d : Fin 768, x0 (ix3 t 0 d) * x1 (ix2 j d)

theorem along_row (t : Fin 2048) (k k' : Fin 15) : Shape.Idx.along (s := S2048x15) (ix2 t k) 1 k' = ix2 t k' := by
  funext a
  match a with
  | ⟨0, _⟩ => rfl
  | ⟨1, _⟩ => rfl

theorem before_eq (a b : Ideal .f32) : (FloatOps.cmpfTotal (F := Ideal) (φ := .f32) .gt a b == 1#1) = decide (b < a) := by
  show (Ideal.cmp (CmpDirection.gt).ordered a b == 1#1) = _
  by_cases h : b < a <;> simp [Ideal.cmp, CmpDirection.ordered, h]

theorem sort_row (x : Vec Ideal S2048x15 .f32) (y : IVec S2048x15 32) (t : Fin 2048) (k : Fin 15) :
    (Host.sort2 S2048x15 1 (fun l r : Ideal .f32 × BitVec 32 => FloatOps.cmpfTotal (F := Ideal) (φ := .f32) .gt l.1 r.1) x y).1 (ix2 t k)
        = x (ix2 t (sortedFrom (fun a b : Fin 15 => decide (x (ix2 t b) < x (ix2 t a))) k))
      ∧ (Host.sort2 S2048x15 1 (fun l r : Ideal .f32 × BitVec 32 => FloatOps.cmpfTotal (F := Ideal) (φ := .f32) .gt l.1 r.1) x y).2 (ix2 t k)
        = y (ix2 t (sortedFrom (fun a b : Fin 15 => decide (x (ix2 t b) < x (ix2 t a))) k)) := by
  have hb : (fun a b : Fin 15 => FloatOps.cmpfTotal (F := Ideal) (φ := .f32) .gt (x (Shape.Idx.along (s := S2048x15) (ix2 t k) 1 a))
      (x (Shape.Idx.along (s := S2048x15) (ix2 t k) 1 b)) == 1#1) = fun a b => decide (x (ix2 t b) < x (ix2 t a)) := by
    funext a b
    rw [along_row, along_row]
    exact before_eq _ _
  unfold Host.sort2
  rw [dif_pos (show 1 < S2048x15.rank by decide)]
  constructor
  · show x (Shape.Idx.along (s := S2048x15) (ix2 t k) 1 (sortedFrom (fun a b : Fin 15 => FloatOps.cmpfTotal (F := Ideal) (φ := .f32) .gt (x (Shape.Idx.along (s := S2048x15) (ix2 t k) 1 a))
      (x (Shape.Idx.along (s := S2048x15) (ix2 t k) 1 b)) == 1#1) k)) = _
    rw [hb]
    exact congrArg x (along_row t k _)
  · show y (Shape.Idx.along (s := S2048x15) (ix2 t k) 1 (sortedFrom (fun a b : Fin 15 => FloatOps.cmpfTotal (F := Ideal) (φ := .f32) .gt (x (Shape.Idx.along (s := S2048x15) (ix2 t k) 1 a))
      (x (Shape.Idx.along (s := S2048x15) (ix2 t k) 1 b)) == 1#1) k)) = _
    rw [hb]
    exact congrArg y (along_row t k _)

/-- The reference's `top_k` of a row: the values and positions of the first three in descending order, equal values in position order. -/
theorem topK_row (x : Vec Ideal S2048x15 .f32) (h : S2048x15.Slices (fun _ => 0) S2048x3) (t : Fin 2048) (r : Fin 3) :
    (Host.topK S2048x3 1 (FloatOps.cmpfTotal (F := Ideal) (φ := .f32) .gt) x h).1 (ix2 t r) = x (ix2 t (nth (fun j => x (ix2 t j)) r))
      ∧ (Host.topK S2048x3 1 (FloatOps.cmpfTotal (F := Ideal) (φ := .f32) .gt) x h).2 (ix2 t r) = BitVec.ofNat 32 (nth (fun j => x (ix2 t j)) r).val := by
  have hi : (fun a => ⟨0 + ((ix2 t r : S2048x3.Idx) (a.cast h.1.symm)).val, Nat.lt_of_lt_of_le (Nat.add_lt_add_left ((ix2 t r : S2048x3.Idx) _).isLt _) (h.2 a)⟩ : S2048x15.Idx)
      = ix2 t (r.castLE (by decide)) := by
    funext a
    match a with
    | ⟨0, _⟩ => exact Fin.ext (Nat.zero_add _)
    | ⟨1, _⟩ => exact Fin.ext (Nat.zero_add _)
  unfold Host.topK
  constructor
  · dsimp only [extractStridedSlice]
    rw [hi, (sort_row x _ t _).1]
    rfl
  · dsimp only [extractStridedSlice]
    rw [hi, (sort_row x _ t _).2, dif_pos (show 1 < S2048x15.rank by decide)]
    rfl

section Router

variable (x0 : Vec Ideal S2048x1x768 .f32) (x1 : Vec Ideal S15x768 .f32)

theorem v0_apply (t : Fin 2048) (d : Fin 768) : val_main_v0 (F := Ideal) x0 (ix2 t d) = x0 (ix3 t 0 d) := by
  pointwise [val_main_v0]

theorem v2_apply (t : Fin 2048) (j : Fin 15) : val_main_v2 (F := Ideal) x0 x1 (ix2 t j) = logit x0 x1 t j := by
  pointwise [val_main_v2, val_main_v1, val_main_v0, logit]

theorem v3_apply (t : Fin 2048) : val_main_v3 (F := Ideal) x0 x1 (ix1 t) = Finset.univ.fold max ⊥ (logit x0 x1 t) := by
  pointwise [val_main_v3, val_main_cst, ofBits_bot, v2_apply]

theorem v13_apply (t : Fin 2048) (j : Fin 15) : val_main_v13 (F := Ideal) x0 x1 (ix2 t j) = soft (logit x0 x1 t) j := by
  pointwise [val_main_v13, val_main_v12, val_main_v11, val_main_v10, val_main_v9, val_main_v8, val_main_v7, val_main_v6, val_main_v5, val_main_v4, val_main_cst_0, val_main_cst_1]
  simp only [v2_apply, v3_apply, ofBits_bot, bot_le, max_eq_right, soft]

theorem values_apply (t : Fin 2048) (r : Fin 3) :
    val_main_values (F := Ideal) x0 x1 (ix2 t r) = soft (logit x0 x1 t) (nth (soft (logit x0 x1 t)) r) := by
  unfold val_main_values
  rw [(topK_row _ _ t r).1]
  simp only [v13_apply]

theorem indices_apply (t : Fin 2048) (r : Fin 3) :
    val_main_indices (F := Ideal) x0 x1 (ix2 t r) = BitVec.ofNat 32 (nth (soft (logit x0 x1 t)) r).val := by
  unfold val_main_indices
  rw [(topK_row _ _ t r).2]
  simp only [v13_apply]

theorem hot_word (a e : Fin 15) : FloatOps.uitofp (F := Ideal) .f32 (IntOp.cmpi .eq (BitVec.ofNat 32 a.val) (BitVec.ofNat 32 e.val)) = if a = e then 1 else 0 := by
  by_cases h : a = e
  · subst h; simp [IntOp.cmpi, FloatOps.uitofp]
  · have : BitVec.ofNat 32 a.val ≠ BitVec.ofNat 32 e.val := fun h' => h (Fin.ext ((ofNat_inj (by omega) (by omega)).mp h'))
    simp [IntOp.cmpi, FloatOps.uitofp, beq_eq_false_iff_ne.mpr this, h]

theorem v21_apply (t : Fin 2048) (e : Fin 15) :
    val_main_v21 (F := Ideal) x0 x1 (ix2 t e) = sortComb (soft (logit x0 x1 t)) (Ideal.ofBits .f32 0x1E3CE508#32) e := by
  pointwise [val_main_v21, val_main_v20, val_main_v19, val_main_v18, val_main_v17, val_main_v16, val_main_v15, val_main_v14, val_main_cst_2, val_main_cst_3, val_main_call0_v4, val_main_call0_v3, val_main_call0_v2, val_main_call0_v1, val_main_call0_v0]
  simp only [values_apply, indices_apply, hot_word]
  rfl

end Router

/-- A routed expert's hidden layer. -/
def refHidden (x0 : Vec Ideal S2048x1x768 .f32) (x2 : Vec Ideal S15x768x2048 .f32) (x3 : Vec Ideal S15x2048 .f32) (e : Fin 15) (t f : Fin 2048) : EReal :=
  (∑ d : Fin 768, x0 (ix3 t 0 d) * x2 (ix3 e d f)) + x3 (ix2 e f)

/-- A routed expert's output. -/
def refOut (x0 : Vec Ideal S2048x1x768 .f32) (x2 : Vec Ideal S15x768x2048 .f32) (x3 : Vec Ideal S15x2048 .f32) (x4 : Vec Ideal S15x1024 .f32)
    (x5 : Vec Ideal S15x1024x768 .f32) (x6 : Vec Ideal S15x768 .f32) (e : Fin 15) (t : Fin 2048) (l : Fin 768) : EReal :=
  (∑ f : Fin 1024, Cert.KernelIdeal.Hand.gated (refHidden x0 x2 x3 e t ⟨1024 + f.val, by omega⟩) (refHidden x0 x2 x3 e t ⟨f.val, by omega⟩) (x4 (ix2 e f))
    * x5 (ix3 e f l)) + x6 (ix2 e l)

section Experts

variable (x0 : Vec Ideal S2048x1x768 .f32) (x1 : Vec Ideal S15x768 .f32) (x2 : Vec Ideal S15x768x2048 .f32) (x3 : Vec Ideal S15x2048 .f32)
  (x4 : Vec Ideal S15x1024 .f32) (x5 : Vec Ideal S15x1024x768 .f32) (x6 : Vec Ideal S15x768 .f32)

theorem v26_apply (e : Fin 15) (t f : Fin 2048) : val_main_v26 (F := Ideal) x0 x2 x3 (ix3 e t f) = refHidden x0 x2 x3 e t f := by
  pointwise [val_main_v26, val_main_v25, val_main_v24, val_main_v23, val_main_v22, val_main_v0, refHidden]
  exact congrArg (· + _) (Finset.sum_congr rfl fun d _ => mul_comm _ _)

theorem v39_apply (e : Fin 15) (t : Fin 2048) (f : Fin 1024) : val_main_v39 (F := Ideal) x0 x2 x3 x4 (ix3 e t f) =
    Cert.KernelIdeal.Hand.gated (refHidden x0 x2 x3 e t ⟨1024 + f.val, by omega⟩) (refHidden x0 x2 x3 e t ⟨f.val, by omega⟩) (x4 (ix2 e f)) := by
  pointwise [val_main_v39, val_main_v38, val_main_v37, val_main_v36, val_main_v35, val_main_v34, val_main_v33, val_main_v32, val_main_v31, val_main_v30, val_main_v29, val_main_v28, val_main_v27, val_main_cst_4, val_main_cst_5, Cert.KernelIdeal.Hand.gated]
  simp only [v26_apply, EReal.neg_mul, Ideal.erfc_neg]

theorem v43_apply (e : Fin 15) (t : Fin 2048) (l : Fin 768) : val_main_v43 (F := Ideal) x0 x2 x3 x4 x5 x6 (ix3 e t l) = refOut x0 x2 x3 x4 x5 x6 e t l := by
  pointwise [val_main_v43, val_main_v42, val_main_v41, val_main_v40, refOut]
  simp only [v39_apply]

theorem v44_apply (t : Fin 2048) (l : Fin 768) : val_main_v44 (F := Ideal) x0 x1 x2 x3 x4 x5 x6 (ix2 t l) =
    ∑ e : Fin 15, sortComb (soft (logit x0 x1 t)) (Ideal.ofBits .f32 0x1E3CE508#32) e * refOut x0 x2 x3 x4 x5 x6 e t l := by
  pointwise [val_main_v44]
  simp only [v21_apply, v43_apply]

end Experts

/-- The shared expert's hidden layer. -/
def refShared (x0 : Vec Ideal S2048x1x768 .f32) (x7 : Vec Ideal S768x4096 .f32) (x8 : Vec Ideal S4096 .f32) (t : Fin 2048) (f : Fin 4096) : EReal :=
  (∑ d : Fin 768, x0 (ix3 t 0 d) * x7 (ix2 d f)) + x8 (ix1 f)

/-- The shared expert's output. -/
def sharedOut (x0 : Vec Ideal S2048x1x768 .f32) (x7 : Vec Ideal S768x4096 .f32) (x8 : Vec Ideal S4096 .f32) (x9 : Vec Ideal S2048 .f32)
    (x10 : Vec Ideal S2048x768 .f32) (x11 : Vec Ideal S768 .f32) (t : Fin 2048) (l : Fin 768) : EReal :=
  (∑ f : Fin 2048, Cert.KernelIdeal.Hand.gated (refShared x0 x7 x8 t ⟨2048 + f.val, by omega⟩) (refShared x0 x7 x8 t ⟨f.val, by omega⟩) (x9 (ix1 f))
    * x10 (ix2 f l)) + x11 (ix1 l)

section Shared

variable (x0 : Vec Ideal S2048x1x768 .f32) (x7 : Vec Ideal S768x4096 .f32) (x8 : Vec Ideal S4096 .f32) (x9 : Vec Ideal S2048 .f32)
  (x10 : Vec Ideal S2048x768 .f32) (x11 : Vec Ideal S768 .f32)

theorem v49_apply (t : Fin 2048) (f : Fin 4096) : val_main_v49 (F := Ideal) x0 x7 x8 (ix2 t f) = refShared x0 x7 x8 t f := by
  pointwise [val_main_v49, val_main_v48, val_main_v47, val_main_v46, val_main_v0, refShared]

theorem v62_apply (t f : Fin 2048) : val_main_v62 (F := Ideal) x0 x7 x8 x9 (ix2 t f) =
    Cert.KernelIdeal.Hand.gated (refShared x0 x7 x8 t ⟨2048 + f.val, by omega⟩) (refShared x0 x7 x8 t ⟨f.val, by omega⟩) (x9 (ix1 f)) := by
  pointwise [val_main_v62, val_main_v61, val_main_v60, val_main_v59, val_main_v58, val_main_v57, val_main_v56, val_main_v55, val_main_v54, val_main_v53, val_main_v52, val_main_v51, val_main_v50, val_main_cst_6, val_main_cst_7, Cert.KernelIdeal.Hand.gated]
  simp only [v49_apply, EReal.neg_mul, Ideal.erfc_neg]

theorem v66_apply (t : Fin 2048) (l : Fin 768) : val_main_v66 (F := Ideal) x0 x7 x8 x9 x10 x11 (ix2 t l) = sharedOut x0 x7 x8 x9 x10 x11 t l := by
  pointwise [val_main_v66, val_main_v65, val_main_v64, val_main_v63, sharedOut]
  simp only [v62_apply]

end Shared

/-- The reference's result at a token. -/
theorem v68_apply (x0 : Vec Ideal S2048x1x768 .f32) (x1 : Vec Ideal S15x768 .f32) (x2 : Vec Ideal S15x768x2048 .f32) (x3 : Vec Ideal S15x2048 .f32)
    (x4 : Vec Ideal S15x1024 .f32) (x5 : Vec Ideal S15x1024x768 .f32) (x6 : Vec Ideal S15x768 .f32) (x7 : Vec Ideal S768x4096 .f32)
    (x8 : Vec Ideal S4096 .f32) (x9 : Vec Ideal S2048 .f32) (x10 : Vec Ideal S2048x768 .f32) (x11 : Vec Ideal S768 .f32) (t : Fin 2048) (l : Fin 768) :
    val_main_v68 (F := Ideal) x0 x1 x2 x3 x4 x5 x6 x7 x8 x9 x10 x11 (ix3 t 0 l) =
      (∑ e : Fin 15, sortComb (soft (logit x0 x1 t)) (Ideal.ofBits .f32 0x1E3CE508#32) e * refOut x0 x2 x3 x4 x5 x6 e t l)
        + sharedOut x0 x7 x8 x9 x10 x11 t l := by
  pointwise [val_main_v68, val_main_v67, val_main_v45]
  simp only [v44_apply, v66_apply]

end Cert.ReferenceIdeal.Hand
-- ==== Proof.Math.Sum.lean ====
/- The two launches' result arrays as the reference's expressions over the arguments. -/
module

public import proofs.«01_k».proof.Proof.Math.Blocks
public import proofs.«01_k».proof.Proof.Math.Ref

@[expose] public section

set_option maxRecDepth 16384

noncomputable section

namespace Cert.KernelIdeal.Hand

open Cert.KernelIdeal.Gen Cert.Moe Cert.ReferenceIdeal.Hand
open Idealize.ShloMosaic Idealize.ShloMosaic.TcCoe Idealize.SL.Sem

variable (m : (ℓ : Loc nD τ sig) → Buf (Elt Ideal) ℓ) (ρ : Dev nD → PrngReg) (c : Dev nD)

theorem pt_div (e : Fin 15) (k : Fin 8) : (pt e.val k.val).val / 8 = e.val := by
  show (e.val * 8 + k.val) % 120 / 8 = e.val
  omega

theorem pt_mod (e : Fin 15) (k : Fin 8) : (pt e.val k.val).val % 8 = k.val := by
  show (e.val * 8 + k.val) % 120 % 8 = k.val
  omega

/-- A routed expert's output at a point is the reference's. -/
theorem expert_at (e : Fin 15) (k : Fin 8) (r : Fin 256) (t : Fin 2048) (ht : t.val = 256 * k.val + r.val) (l : Fin 768) :
    expertOut (tokens (grid0.coords (pt e.val k.val)) (iblk0 (V3 m ρ) c 1 (pt e.val k.val))) (iblk0 (V3 m ρ) c 2 (pt e.val k.val))
      (iblk0 (V3 m ρ) c 3 (pt e.val k.val)) (iblk0 (V3 m ρ) c 4 (pt e.val k.val)) (iblk0 (V3 m ρ) c 5 (pt e.val k.val)) (iblk0 (V3 m ρ) c 6 (pt e.val k.val)) r l
      = refOut (a0 m c) (a2 m c) (a3 m c) (a4 m c) (a5 m c) (a6 m c) e t l := by
  have hp := pt_div e k
  have hk := pt_mod e k
  generalize pt e.val k.val = p at hp hk ⊢
  have hx : ∀ d : Fin 768, tokens (grid0.coords p) (iblk0 (V3 m ρ) c 1 p) (ix2 r d) = a0 m c (ix3 t 0 d) := fun d =>
    (tokens_at p _ r t (by rw [hk]; exact ht) d).trans ((blk0_1 (V3 m ρ) c p t d).trans (W3_v0 m ρ c t d))
  have h2 : ∀ (d : Fin 768) (f : Fin 2048), (iblk0 (V3 m ρ) c 2 p : Vec Ideal S1x768x2048 .f32) (ix3 0 d f) = a2 m c (ix3 e d f) := fun d f =>
    (blk0_2 (V3 m ρ) c p e hp d f).trans (congrFun (W3_args m ρ c main_arg2 (by decide)) _)
  have h3 : ∀ f : Fin 2048, (iblk0 (V3 m ρ) c 3 p : Vec Ideal S1x1x2048 .f32) (ix3 0 0 f) = a3 m c (ix2 e f) := fun f =>
    (blk0_3 (V3 m ρ) c p e hp f).trans (W3_v3 m ρ c e f)
  have h4 : ∀ f : Fin 1024, (iblk0 (V3 m ρ) c 4 p : Vec Ideal S1x1x1024 .f32) (ix3 0 0 f) = a4 m c (ix2 e f) := fun f =>
    (blk0_4 (V3 m ρ) c p e hp f).trans (W3_v4 m ρ c e f)
  have h5 : ∀ (f : Fin 1024) (l : Fin 768), (iblk0 (V3 m ρ) c 5 p : Vec Ideal S1x1024x768 .f32) (ix3 0 f l) = a5 m c (ix3 e f l) := fun f l =>
    (blk0_5 (V3 m ρ) c p e hp f l).trans (congrFun (W3_args m ρ c main_arg5 (by decide)) _)
  have h6 : ∀ l : Fin 768, (iblk0 (V3 m ρ) c 6 p : Vec Ideal S1x1x768 .f32) (ix3 0 0 l) = a6 m c (ix2 e l) := fun l =>
    (blk0_6 (V3 m ρ) c p e hp l).trans (W3_v5 m ρ c e l)
  have hh : ∀ f : Fin 2048, hidden (tokens (grid0.coords p) (iblk0 (V3 m ρ) c 1 p)) (iblk0 (V3 m ρ) c 2 p) (iblk0 (V3 m ρ) c 3 p) r f
      = refHidden (a0 m c) (a2 m c) (a3 m c) e t f := fun f =>
    congrArg₂ (· + ·) (Finset.sum_congr rfl fun d _ => congrArg₂ (· * ·) (hx d) (h2 d f)) (h3 f)
  exact congrArg₂ (· + ·) (Finset.sum_congr rfl fun f _ => congrArg₂ (· * ·) (by rw [hh, hh]; exact congrArg _ (h4 f)) (h5 f l)) (h6 l)

/-- The combine weights the kernel keeps are the reference's. -/
theorem route_at (k : Fin 8) (r : Fin 256) (t : Fin 2048) (ht : t.val = 256 * k.val + r.val) (e : Fin 15) :
    route (V3 m ρ) c k.val (ix2 r e.castSucc) = sortComb (soft (logit (a0 m c) (a1 m c) t)) (Ideal.ofBits .f32 0x1E3CE508#32) e := by
  have hk := pt_mod 0 k
  unfold route
  rw [routeTile_apply]
  refine comb_eq (fun j => ?_) ?_ eps_pos e
  · unfold laneLogits logit
    have hj : IntOp.cmpi .slt (BitVec.ofNat 32 j.castSucc.val) 15#32 = 1#1 := by
      revert j; decide
    rw [hj]
    refine (if_pos rfl : _ = _).trans ?_
    refine Finset.sum_congr rfl fun d _ => congrArg₂ (· * ·) ?_ ?_
    · exact (tokens_at (pt 0 k.val) _ r t (by rw [show (pt 0 k.val).val % 8 = k.val from hk]; exact ht) d).trans
        ((blk0_1 (V3 m ρ) c _ t d).trans (W3_v0 m ρ c t d))
    · exact (blk0_0 (V3 m ρ) c _ d j.castSucc).trans (W3_v2 m ρ c d j)
  · unfold laneLogits
    have hj : IntOp.cmpi .slt (BitVec.ofNat 32 (Fin.last 15).val) 15#32 = 0#1 := by decide
    rw [hj]
    exact if_neg (by decide)

/-- An expert's weighted output. -/
abbrev term (t : Fin 2048) (l : Fin 768) (e : Fin 15) : EReal :=
  sortComb (soft (logit (a0 m c) (a1 m c) t)) (Ideal.ofBits .f32 0x1E3CE508#32) e * refOut (a0 m c) (a2 m c) (a3 m c) (a4 m c) (a5 m c) (a6 m c) e t l

/-- A tile of the accumulator holds the sum over the experts added so far. -/
theorem acc_at (k : Fin 8) (r : Fin 256) (t : Fin 2048) (ht : t.val = 256 * k.val + r.val) (l : Fin 768) :
    ∀ (e : ℕ) (he : e < 15), accTile (V3 m ρ) c k.val e (ix2 r l) = ∑ j : Fin (e + 1), term m c t l ⟨j.val, by omega⟩ := by
  intro e
  induction e with
  | zero =>
    intro he
    have hw : (grid0.coords (pt 0 k.val) 0).val = (0 : Fin 15).val := (coord0_at _).trans (pt_div 0 k)
    unfold accTile
    rw [hw, firstTile_apply, route_at m ρ c k r t ht, Fin.sum_univ_one]
    exact congrArg (_ * ·) (expert_at m ρ c 0 k r t ht l)
  | succ e ih =>
    intro he
    have hw : (grid0.coords (pt (e + 1) k.val) 0).val = (⟨e + 1, he⟩ : Fin 15).val := (coord0_at _).trans (pt_div ⟨e + 1, he⟩ k)
    unfold accTile
    rw [hw, laterTile_apply, route_at m ρ c k r t ht, ih (by omega)]
    refine Eq.trans ?_ (Fin.sum_univ_castSucc (n := e + 1) _).symm
    exact congrArg₂ (· + ·) rfl (congrArg (_ * ·) (expert_at m ρ c ⟨e + 1, he⟩ k r t ht l))

/-- The first launch's result array: the weighted sum over the routed experts. -/
theorem moe_at (t : Fin 2048) (l : Fin 768) : (res0 (V3 m ρ) c : Vec Ideal S2048x768 .f32) (ix2 t l) = ∑ e : Fin 15, term m c t l e := by
  rw [res0_apply]
  exact acc_at m ρ c ⟨t.val / 256, by omega⟩ ⟨t.val % 256, Nat.mod_lt _ (by decide)⟩ t (by show t.val = 256 * (t.val / 256) + t.val % 256; omega) l 14 (by decide)

/-- The second launch's result array. -/
theorem shared_at (t : Fin 2048) (l : Fin 768) :
    (W6 m ρ c (Proc.devRef .tc main_v10) : Vec Ideal S2048x768 .f32) (ix2 t l)
      = (∑ e : Fin 15, term m c t l e) + sharedOut (a0 m c) (a7 m c) (a8 m c) (a9 m c) (a10 m c) (a11 m c) t l := by
  have h : (W6 m ρ c (Proc.devRef .tc main_v10) : Vec Ideal S2048x768 .f32) = fun i =>
      (∑ e : Fin 15, term m c (i 0) (i 1) e) + sharedOut (a0 m c) (a7 m c) (a8 m c) (a9 m c) (a10 m c) (a11 m c) (i 0) (i 1) := by
    refine (W6_arr m ρ c 7).trans (arr1_7 (V5 m ρ) c _ fun p r t l ht => ?_)
    rw [sharedTile_apply]
    have hx : ∀ d : Fin 768, (iblk1 (V5 m ρ) c 0 p : Vec Ideal S256x768 .f32) (ix2 r d) = a0 m c (ix3 t 0 d) := fun d =>
      (blk1_0 (V5 m ρ) c p r t ht d).trans (W5_v0 m ρ c t d)
    have hy : (iblk1 (V5 m ρ) c 1 p : Vec Ideal S256x768 .f32) (ix2 r l) = ∑ e : Fin 15, term m c t l e :=
      (blk1_1 (V5 m ρ) c p r t ht l).trans ((congrFun (W5_v6 m ρ c) _).trans (moe_at m ρ c t l))
    have h2 : ∀ (d : Fin 768) (f : Fin 4096), (iblk1 (V5 m ρ) c 2 p : Vec Ideal S768x4096 .f32) (ix2 d f) = a7 m c (ix2 d f) := fun d f =>
      (blk1_2 (V5 m ρ) c p d f).trans (congrFun (W5_args m ρ c main_arg7 (by decide)) _)
    have h3 : ∀ f : Fin 4096, (iblk1 (V5 m ρ) c 3 p : Vec Ideal S1x4096 .f32) (ix2 0 f) = a8 m c (ix1 f) := fun f =>
      (blk1_3 (V5 m ρ) c p f).trans (W5_v7 m ρ c f)
    have h4 : ∀ f : Fin 2048, (iblk1 (V5 m ρ) c 4 p : Vec Ideal S1x2048 .f32) (ix2 0 f) = a9 m c (ix1 f) := fun f =>
      (blk1_4 (V5 m ρ) c p f).trans (W5_v8 m ρ c f)
    have h5 : ∀ (f : Fin 2048) (l : Fin 768), (iblk1 (V5 m ρ) c 5 p : Vec Ideal S2048x768 .f32) (ix2 f l) = a10 m c (ix2 f l) := fun f l =>
      (blk1_5 (V5 m ρ) c p f l).trans (congrFun (W5_args m ρ c main_arg10 (by decide)) _)
    have h6 : ∀ l : Fin 768, (iblk1 (V5 m ρ) c 6 p : Vec Ideal S1x768 .f32) (ix2 0 l) = a11 m c (ix1 l) := fun l =>
      (blk1_6 (V5 m ρ) c p l).trans (W5_v9 m ρ c l)
    have hh : ∀ f : Fin 4096, sharedHidden (iblk1 (V5 m ρ) c 0 p) (iblk1 (V5 m ρ) c 2 p) (iblk1 (V5 m ρ) c 3 p) r f
        = refShared (a0 m c) (a7 m c) (a8 m c) t f := fun f =>
      congrArg₂ (· + ·) (Finset.sum_congr rfl fun d _ => congrArg₂ (· * ·) (hx d) (h2 d f)) (h3 f)
    exact congrArg₂ (· + ·) hy (congrArg₂ (· + ·) (Finset.sum_congr rfl fun f _ =>
      congrArg₂ (· * ·) (by rw [hh, hh]; exact congrArg _ (h4 f)) (h5 f l)) (h6 l))
  rw [h]
  rfl

/-- The kernel's result. -/
theorem result_at (t : Fin 2048) (l : Fin 768) :
    (W7 m ρ c (Proc.devRef .tc main_v11) : Vec Ideal S2048x1x768 .f32) (ix3 t 0 l)
      = (∑ e : Fin 15, term m c t l e) + sharedOut (a0 m c) (a7 m c) (a8 m c) (a9 m c) (a10 m c) (a11 m c) t l :=
  (W7_v11 m ρ c t l).trans (shared_at m ρ c t l)

end Cert.KernelIdeal.Hand
-- ==== Proof.Math.Equal.lean ====
/- From equal arguments the reference and the idealized kernel end with equal results. -/
module

public import proofs.«01_k».proof.Proof.Math.Sum

@[expose] public section

set_option maxRecDepth 16384

noncomputable section

namespace Cert.Proof

open Idealize.ShloMosaic Idealize.ShloMosaic.TcCoe Idealize.SL.Sem

theorem results_equal (m : (ℓ : Loc Cert.KernelIdeal.nD Cert.KernelIdeal.τ Cert.KernelIdeal.sig) → Buf (Elt Ideal) ℓ) (ρ : Dev Cert.KernelIdeal.nD → PrngReg)
    (m' : (ℓ : Loc Cert.ReferenceIdeal.nD Cert.ReferenceIdeal.τ Cert.ReferenceIdeal.sig) → Buf (Elt Ideal) ℓ) (c : Dev Cert.KernelIdeal.nD)
    (hm : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) :
    Cert.ReferenceIdeal.Value.res_main_v68 m' c = Cert.KernelIdeal.Hand.W7 m ρ c (Proc.devRef .tc Cert.KernelIdeal.main_v11) := by
  obtain ⟨h0, h1, h2, h3, h4, h5, h6, h7, h8, h9, h10, h11⟩ := hm
  rw [Cert.ReferenceIdeal.Read.val_main_v68_eq, h0, h1, h2, h3, h4, h5, h6, h7, h8, h9, h10, h11]
  funext i
  have hi : i = (ix3 (i 0) 0 (i 2) : Cert.ReferenceIdeal.S2048x1x768.Idx) := by
    funext a
    match a with
    | ⟨0, _⟩ => rfl
    | ⟨1, _⟩ => exact Subsingleton.elim (α := Fin 1) _ _
    | ⟨2, _⟩ => rfl
  rw [hi]
  exact (Cert.ReferenceIdeal.Hand.v68_apply _ _ _ _ _ _ _ _ _ _ _ _ (i 0) (i 2)).trans (Cert.KernelIdeal.Hand.result_at m ρ c (i 0) (i 2)).symm

end Cert.Proof
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Bits.Run
public import proofs.«01_k».proof.Proof.Ideal.Run
public import proofs.«01_k».proof.Proof.Math.Equal
public import Idealize.ShloMosaic.Adequacy
public import Idealize.ShloMosaic.Init

@[expose] public section

noncomputable section

namespace Cert.Proof

open Idealize.ShloMosaic Idealize.SL.Sem

theorem frame_kernel : Cert.quiescent_Kernel := by
  intro m ρ _
  refine (θ_run _ _ _).mono (fun r h => ⟨fun c => ?_, h.2⟩) (Cert.Kernel.Hand.run (F := Bits) m ρ)
  obtain ⟨h0, h1, h2, h3, h4, h5, h6, h7, h8, h9, h10, h11, -⟩ := h.1 c
  exact ⟨h0, h1, h2, h3, h4, h5, h6, h7, h8, h9, h10, h11⟩

theorem frame_ideal : Cert.quiescent_KernelIdeal := by
  intro m ρ _
  refine (θ_run _ _ _).mono (fun r h => ⟨fun c => ?_, h.2⟩) (Cert.KernelIdeal.Hand.run (F := Ideal) m ρ)
  obtain ⟨h0, h1, h2, h3, h4, h5, h6, h7, h8, h9, h10, h11, -⟩ := h.1 c
  exact ⟨h0, h1, h2, h3, h4, h5, h6, h7, h8, h9, h10, h11⟩

theorem frame_reference : Cert.quiescent_ReferenceIdeal := fun m ρ _ =>
  (θ_run _ _ _).mono (fun r h => ⟨fun c => (h c).2, sem_eq_zero_of_no_sems (by decide) r.2⟩)
    (Cert.ReferenceIdeal.Value.run (F := Ideal) m ρ)

theorem named : Cert.preserves_Kernel_KernelIdeal :=
  IdealRules.named_const.statement Cert.KernelIdeal.κ "mask" .f32 0xF149F2CA#32 ⊥ rfl

theorem equal : Cert.algebraic_KernelIdeal_ReferenceIdeal := by
  intro m ρ m' ρ' _ hm
  refine ⟨fun c => Cert.KernelIdeal.Hand.W7 m ρ c (Proc.devRef .tc Cert.KernelIdeal.main_v11), ?_, ?_⟩
  · refine (θ_run _ _ _).mono (fun r h c => ?_) (Cert.KernelIdeal.Hand.run (F := Ideal) m ρ)
    obtain ⟨h0, h1, h2, h3, h4, h5, h6, h7, h8, h9, h10, h11, h12⟩ := h.1 c
    exact ⟨h12, h0, h1, h2, h3, h4, h5, h6, h7, h8, h9, h10, h11⟩
  · refine (θ_run _ _ _).mono (fun r h c => ⟨(h c).1.trans ?_, (h c).2⟩) (Cert.ReferenceIdeal.Value.run (F := Ideal) m' ρ')
    exact Cert.Proof.results_equal m ρ m' c (hm c)

theorem claim : Cert.Claim := ⟨Cert.Kernel.Gen.facts, Cert.KernelIdeal.Gen.facts, Cert.ReferenceIdeal.Gen.facts,
  frame_kernel, frame_ideal, frame_reference, named, equal⟩

end Cert.Proof

end
